-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x2048 : Shape := ⟨3, ![12, 128, 2048]⟩
abbrev S2048x5632 : Shape := ⟨2, ![2048, 5632]⟩
abbrev S1024x5632 : Shape := ⟨2, ![1024, 5632]⟩
abbrev S64x5632 : Shape := ⟨2, ![64, 5632]⟩
abbrev S2048x32 : Shape := ⟨2, ![2048, 32]⟩
abbrev S32x5632 : Shape := ⟨2, ![32, 5632]⟩
abbrev S1536x2048 : Shape := ⟨2, ![1536, 2048]⟩
abbrev S1536x128 : Shape := ⟨2, ![1536, 128]⟩
abbrev S1536x32 : Shape := ⟨2, ![1536, 32]⟩
abbrev S2048x512 : Shape := ⟨2, ![2048, 512]⟩
abbrev S1024x512 : Shape := ⟨2, ![1024, 512]⟩
abbrev S64x512 : Shape := ⟨2, ![64, 512]⟩
abbrev S32x512 : Shape := ⟨2, ![32, 512]⟩
abbrev S1x512 : Shape := ⟨2, ![1, 512]⟩
abbrev S256x32 : Shape := ⟨2, ![256, 32]⟩
abbrev S256x2048 : Shape := ⟨2, ![256, 2048]⟩
abbrev S256x512 : Shape := ⟨2, ![256, 512]⟩
abbrev S256x128 : Shape := ⟨2, ![256, 128]⟩
abbrev S1536 : Shape := ⟨1, ![1536]⟩
abbrev S1536x1 : Shape := ⟨2, ![1536, 1]⟩
abbrev S12x128 : Shape := ⟨2, ![12, 128]⟩
abbrev S12x128x32 : Shape := ⟨3, ![12, 128, 32]⟩

abbrev nBuf : Space → Nat
  | .hbm => 16
  | .vmem => 19
  | .smem => 0
  | _ => 0

abbrev bufTy : (tb : Table) → Fin (tcTables nBuf tb) → BufTy
  | .hbm, ⟨0, _⟩ => ⟨S12x128x2048, .bf16⟩
  | .hbm, ⟨1, _⟩ => ⟨S2048x5632, .bf16⟩
  | .hbm, ⟨2, _⟩ => ⟨S1024x5632, .i8⟩
  | .hbm, ⟨3, _⟩ => ⟨S64x5632, .bf16⟩
  | .hbm, ⟨4, _⟩ => ⟨S64x5632, .bf16⟩
  | .hbm, ⟨5, _⟩ => ⟨S2048x32, .bf16⟩
  | .hbm, ⟨6, _⟩ => ⟨S32x5632, .bf16⟩
  | .hbm, ⟨7, _⟩ => ⟨S1536x2048, .bf16⟩
  | .hbm, ⟨8, _⟩ => ⟨S1536x128, .f32⟩
  | .hbm, ⟨9, _⟩ => ⟨S1536x32, .f32⟩
  | .hbm, ⟨10, _⟩ => ⟨S2048x32, .f32⟩
  | .hbm, ⟨11, _⟩ => ⟨S32x5632, .f32⟩
  | .hbm, ⟨12, _⟩ => ⟨S1536x1, .f32⟩
  | .hbm, ⟨13, _⟩ => ⟨S1536, .f32⟩
  | .hbm, ⟨14, _⟩ => ⟨S12x128, .f32⟩
  | .hbm, ⟨15, _⟩ => ⟨S12x128x32, .f32⟩
  | .local _ .vmem, ⟨0, _⟩ => ⟨S1536x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .i8⟩
  | .local _ .vmem, ⟨4, _⟩ => ⟨S1024x512, .i8⟩
  | .local _ .vmem, ⟨5, _⟩ => ⟨S64x512, .bf16⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S2048x32, .bf16⟩
  | .local _ .vmem, ⟨10, _⟩ => ⟨S32x512, .bf16⟩
  | .local _ .vmem, ⟨11, _⟩ => ⟨S32x512, .bf16⟩
  | .local _ .vmem, ⟨12, _⟩ => ⟨S1536x128, .f32⟩
  | .local _ .vmem, ⟨13, _⟩ => ⟨S1536x32, .f32⟩
  | .local _ .vmem, ⟨14, _⟩ => ⟨S2048x32, .f32⟩
  | .local _ .vmem, ⟨15, _⟩ => ⟨S32x512, .f32⟩
  | .local _ .vmem, ⟨16, _⟩ => ⟨S32x512, .f32⟩
  | .local _ .vmem, ⟨17, _⟩ => ⟨S1536x32, .bf16⟩
  | .local _ .vmem, ⟨18, _⟩ => ⟨S2048x512, .bf16⟩
  | _, _ => ⟨S12x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v1206 : BitVec 1 := Scalar.cmpi .eq arg0 c10_i32
  let v1207 : BitVec 32 := Scalar.extui v1206
  let c0_i32_696 : BitVec 32 := 0#32
  let v1208 : BitVec 1 := Scalar.cmpi .ne v1207 c0_i32_696
  v1208

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S12x128x2048 : Shape := ⟨3, ![12, 128, 2048]⟩
abbrev S2048x5632 : Shape := ⟨2, ![2048, 5632]⟩
abbrev S1024x5632 : Shape := ⟨2, ![1024, 5632]⟩
abbrev S64x5632 : Shape := ⟨2, ![64, 5632]⟩
abbrev S2048x32 : Shape := ⟨2, ![2048, 32]⟩
abbrev S32x5632 : Shape := ⟨2, ![32, 5632]⟩
abbrev S_ : Shape := ⟨0, ![]⟩
abbrev S32x32x5632 : Shape := ⟨3, ![32, 32, 5632]⟩
abbrev S32x1x5632 : Shape := ⟨3, ![32, 1, 5632]⟩
abbrev S12x128x1024 : Shape := ⟨3, ![12, 128, 1024]⟩
abbrev S12x128x5632 : Shape := ⟨3, ![12, 128, 5632]⟩
abbrev S12x128x32 : Shape := ⟨3, ![12, 128, 32]⟩
abbrev S12x128 : Shape := ⟨2, ![12, 128]⟩

abbrev nBuf : Space → Nat
  | .hbm => 63
  | .vmem => 0
  | .smem => 0
  | _ => 0

abbrev bufTy : (tb : Table) → Fin (tcTables nBuf tb) → BufTy
  | .hbm, ⟨0, _⟩ => ⟨S12x128x2048, .bf16⟩
  | .hbm, ⟨1, _⟩ => ⟨S2048x5632, .bf16⟩
  | .hbm, ⟨2, _⟩ => ⟨S1024x5632, .i8⟩
  | .hbm, ⟨3, _⟩ => ⟨S64x5632, .bf16⟩
  | .hbm, ⟨4, _⟩ => ⟨S64x5632, .bf16⟩
  | .hbm, ⟨5, _⟩ => ⟨S2048x32, .bf16⟩
  | .hbm, ⟨6, _⟩ => ⟨S32x5632, .bf16⟩
  | .hbm, ⟨7, _⟩ => ⟨S1024x5632, .i32⟩
  | .hbm, ⟨8, _⟩ => ⟨S_, .i32⟩
  | .hbm, ⟨9, _⟩ => ⟨S1024x5632, .i32⟩
  | .hbm, ⟨10, _⟩ => ⟨S1024x5632, .i32⟩
  | .hbm, ⟨11, _⟩ => ⟨S_, .i32⟩
  | .hbm, ⟨12, _⟩ => ⟨S1024x5632, .i32⟩
  | .hbm, ⟨13, _⟩ => ⟨S1024x5632, .i32⟩
  | .hbm, ⟨14, _⟩ => ⟨S1024x5632, .bf16⟩
  | .hbm, ⟨15, _⟩ => ⟨S32x5632, .bf16⟩
  | .hbm, ⟨16, _⟩ => ⟨S32x5632, .bf16⟩
  | .hbm, ⟨17, _⟩ => ⟨S1024x5632, .bf16⟩
  | .hbm, ⟨18, _⟩ => ⟨S32x32x5632, .bf16⟩
  | .hbm, ⟨19, _⟩ => ⟨S32x1x5632, .bf16⟩
  | .hbm, ⟨20, _⟩ => ⟨S32x32x5632, .bf16⟩
  | .hbm, ⟨21, _⟩ => ⟨S32x32x5632, .bf16⟩
  | .hbm, ⟨22, _⟩ => ⟨S32x1x5632, .bf16⟩
  | .hbm, ⟨23, _⟩ => ⟨S32x32x5632, .bf16⟩
  | .hbm, ⟨24, _⟩ => ⟨S32x32x5632, .bf16⟩
  | .hbm, ⟨25, _⟩ => ⟨S1024x5632, .bf16⟩
  | .hbm, ⟨26, _⟩ => ⟨S1024x5632, .bf16⟩
  | .hbm, ⟨27, _⟩ => ⟨S1024x5632, .bf16⟩
  | .hbm, ⟨28, _⟩ => ⟨S32x5632, .bf16⟩
  | .hbm, ⟨29, _⟩ => ⟨S32x5632, .bf16⟩
  | .hbm, ⟨30, _⟩ => ⟨S1024x5632, .bf16⟩
  | .hbm, ⟨31, _⟩ => ⟨S32x32x5632, .bf16⟩
  | .hbm, ⟨32, _⟩ => ⟨S32x1x5632, .bf16⟩
  | .hbm, ⟨33, _⟩ => ⟨S32x32x5632, .bf16⟩
  | .hbm, ⟨34, _⟩ => ⟨S32x32x5632, .bf16⟩
  | .hbm, ⟨35, _⟩ => ⟨S32x1x5632, .bf16⟩
  | .hbm, ⟨36, _⟩ => ⟨S32x32x5632, .bf16⟩
  | .hbm, ⟨37, _⟩ => ⟨S32x32x5632, .bf16⟩
  | .hbm, ⟨38, _⟩ => ⟨S1024x5632, .bf16⟩
  | .hbm, ⟨39, _⟩ => ⟨S1024x5632, .bf16⟩
  | .hbm, ⟨40, _⟩ => ⟨S12x128x1024, .bf16⟩
  | .hbm, ⟨41, _⟩ => ⟨S12x128x5632, .f32⟩
  | .hbm, ⟨42, _⟩ => ⟨S12x128x1024, .bf16⟩
  | .hbm, ⟨43, _⟩ => ⟨S12x128x5632, .f32⟩
  | .hbm, ⟨44, _⟩ => ⟨S12x128x5632, .f32⟩
  | .hbm, ⟨45, _⟩ => ⟨S12x128x32, .f32⟩
  | .hbm, ⟨46, _⟩ => ⟨S12x128x32, .bf16⟩
  | .hbm, ⟨47, _⟩ => ⟨S12x128x5632, .f32⟩
  | .hbm, ⟨48, _⟩ => ⟨S12x128x5632, .f32⟩
  | .hbm, ⟨49, _⟩ => ⟨S12x128x5632, .f32⟩
  | .hbm, ⟨50, _⟩ => ⟨S_, .f32⟩
  | .hbm, ⟨51, _⟩ => ⟨S12x128, .f32⟩
  | .hbm, ⟨52, _⟩ => ⟨S12x128x5632, .bf16⟩
  | .hbm, ⟨53, _⟩ => ⟨S12x128x32, .f32⟩
  | .hbm, ⟨54, _⟩ => ⟨S12x128x32, .bf16⟩
  | .hbm, ⟨55, _⟩ => ⟨S2048x32, .f32⟩
  | .hbm, ⟨56, _⟩ => ⟨S_, .f32⟩
  | .hbm, ⟨57, _⟩ => ⟨S2048x32, .f32⟩
  | .hbm, ⟨58, _⟩ => ⟨S2048x32, .f32⟩
  | .hbm, ⟨59, _⟩ => ⟨S32x5632, .f32⟩
  | .hbm, ⟨60, _⟩ => ⟨S_, .f32⟩
  | .hbm, ⟨61, _⟩ => ⟨S32x5632, .f32⟩
  | .hbm, ⟨62, _⟩ => ⟨S32x5632, .f32⟩
  | _, _ => ⟨S12x128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Proof.Spec.lean ====
/- The mathematics of the problem, entry by entry over the extended reals, with the number `N` of columns left open:
   the kernel's grid point t works on N = 512 columns, the reference on all N = 5632. -/
module

public import Idealize.ShloMosaic.PureOps.Ideal
public import Idealize.ShloMosaic.Lib.ValueIdx
public import Mathlib.Tactic.Ring
public import Mathlib.Logic.Equiv.Fin.Basic
public import Mathlib.Algebra.BigOperators.Fin

@[expose] public section

noncomputable section

open Idealize.ShloMosaic Idealize.ShloMosaic.ValueIdx
open scoped BigOperators

namespace Cert.Spec

/-- A matrix of extended reals. -/
abbrev Mat (M N : ℕ) : Type := (⟨2, ![M, N]⟩ : Shape).Idx → EReal

/-- The 4-bit code of row `k`, column `n`: the low half of the byte for the first 1024 rows, the high half of the byte
    1024 rows up for the others. -/
def code {N : ℕ} (q : (⟨2, ![1024, N]⟩ : Shape).Idx → BitVec 8) (k : Fin 2048) (n : Fin N) : EReal :=
  (((if k.val < 1024 then (q (ix2 ⟨k.val % 1024, Nat.mod_lt _ (by decide)⟩ n)).toNat % 16
     else (q (ix2 ⟨k.val % 1024, Nat.mod_lt _ (by decide)⟩ n)).toNat / 16 : ℕ) : ℝ) : EReal)

/-- The group of 32 rows that row `k` lies in. -/
abbrev grp (k : Fin 2048) : Fin 64 := ⟨k.val / 32, by have := k.isLt; omega⟩

/-- The error of the quantised matrix: weight minus (code − zero) · scale. -/
def err {N : ℕ} (w : Mat 2048 N) (q : (⟨2, ![1024, N]⟩ : Shape).Idx → BitVec 8) (s z : Mat 64 N)
    (k : Fin 2048) (n : Fin N) : EReal :=
  w (ix2 k n) - (code q k n - z (ix2 (grp k) n)) * s (ix2 (grp k) n)

/-- The error as a matrix. -/
def errM {N : ℕ} (w : Mat 2048 N) (q : (⟨2, ![1024, N]⟩ : Shape).Idx → BitVec 8) (s z : Mat 64 N) : Mat 2048 N :=
  fun y => err w q s z (y 0) (y 1)

/-- The product x · a, entry (i, r). -/
def proj (x : Mat 1536 2048) (a : Mat 2048 32) (i : Fin 1536) (r : Fin 32) : EReal :=
  ∑ k : Fin 2048, x (ix2 i k) * a (ix2 k r)

/-- The product x · a as a matrix. -/
def projM (x : Mat 1536 2048) (a : Mat 2048 32) : Mat 1536 32 := fun y => proj x a (y 0) (y 1)

/-- The residual x · e − p · b, entry (i, n). -/
def res {N : ℕ} (x : Mat 1536 2048) (e : Mat 2048 N) (p : Mat 1536 32) (b : Mat 32 N) (i : Fin 1536) (n : Fin N) : EReal :=
  (∑ k : Fin 2048, x (ix2 i k) * e (ix2 k n)) - ∑ r : Fin 32, p (ix2 i r) * b (ix2 r n)

/-- The residual as a matrix. -/
def resM {N : ℕ} (x : Mat 1536 2048) (e : Mat 2048 N) (p : Mat 1536 32) (b : Mat 32 N) : Mat 1536 N :=
  fun y => res x e p b (y 0) (y 1)

/-- What one grid point adds to the lane sums of the squared residual: lane `y 1` takes the columns that lie there, one
    of each run of 128 columns. -/
def lossAdd (r : Mat 1536 512) (lo : Mat 1536 128) : Mat 1536 128 := fun y =>
  lo y + ∑ q : Fin 4, r (ix2 (y 0) ⟨128 * q.val + (y 1).val, by have := idx2_lt1 y; have := q.isLt; omega⟩)
    * r (ix2 (y 0) ⟨128 * q.val + (y 1).val, by have := idx2_lt1 y; have := q.isLt; omega⟩)

/-- What one grid point adds to residual · bᵀ. -/
def gAdd (r : Mat 1536 512) (b : Mat 32 512) (go : Mat 1536 32) : Mat 1536 32 := fun y =>
  go y + ∑ l : Fin 512, r (ix2 (y 0) l) * b (ix2 (y 1) l)

/-- −2 · pᵀ · residual. -/
def dbM {N : ℕ} (p : Mat 1536 32) (r : Mat 1536 N) : Mat 32 N := fun y =>
  ((-2 : ℝ) : EReal) * ∑ i : Fin 1536, p (ix2 i (y 0)) * r (ix2 i (y 1))

/-- −2 · xᵀ · g. -/
def daM (x : Mat 1536 2048) (g : Mat 1536 32) : Mat 2048 32 := fun y =>
  ((-2 : ℝ) : EReal) * ∑ i : Fin 1536, x (ix2 i (y 0)) * g (ix2 i (y 1))

/-- The lane sums with column 0 replaced by the sum of all 128 lanes. -/
def lossEnd (lo : Mat 1536 128) : Mat 1536 128 := fun y =>
  if (y 1).val = 0 then ∑ l : Fin 128, lo (ix2 (y 0) l) else lo y

/-- A sum over `A · B` terms, in `A` runs of `B`. -/
theorem sum_runs {R : Type*} [AddCommMonoid R] (A B N : ℕ) (hN : N = A * B) (f : Fin N → R) :
    ∑ i : Fin N, f i = ∑ t : Fin A, ∑ i : Fin B, f ⟨B * t.val + i.val, by
      have ht := t.isLt; have hi := i.isLt
      calc B * t.val + i.val < B * t.val + B := by omega
        _ = B * (t.val + 1) := by ring
        _ ≤ B * A := Nat.mul_le_mul_left _ ht
        _ = N := by rw [hN, Nat.mul_comm]⟩ := by
  subst hN
  rw [← Equiv.sum_comp finProdFinEquiv f, Fintype.sum_prod_type]
  refine Finset.sum_congr rfl fun t _ => Finset.sum_congr rfl fun i _ => congrArg f (Fin.ext ?_)
  show i.val + B * t.val = B * t.val + i.val
  omega

end Cert.Spec

end
-- ==== Proof.Dequant.lean ====
/- The block of the error matrix that every grid point leaves in its scratch buffer: 64 stores of 32 rows, one per
   group of quantised rows, together hold weight minus (code − zero) · scale at every entry. -/
module

public import proofs.«01_k».proof.Proof.Gen.KernelIdeal.Frame
public import proofs.«01_k».proof.Proof.Spec
public import Idealize.ShloMosaic.Lib.Pipeline.Value
public import Idealize.ShloMosaic.Lib.Pipeline.ReadBack
public import Idealize.ShloMosaic.PureOps.Ideal.Laws
public import Idealize.ShloMosaic.Lib.MatmulPlain

@[expose] public section

set_option maxRecDepth 16384

noncomputable section

open Idealize.ShloMosaic Idealize.ShloMosaic.TcCoe Idealize.ShloMosaic.Tactic Idealize.ShloMosaic.ValueIdx
open Idealize.SL Idealize.SL.Sem
open scoped BigOperators

namespace Cert.KernelIdeal.Value

open Cert.KernelIdeal Cert.KernelIdeal.Gen Cert.Spec

/-- The origin of a matrix, as the zero function. -/
theorem hz : (![0, 0] : Fin 2 → Nat) = fun _ => 0 := funext fun a => by fin_cases a <;> rfl

/-- The low half of a byte, as the kernel reads it. -/
theorem lo_nibble (b : BitVec 8) : (FloatOps.uitofp (F := Ideal) .bf16 (IntOp.andi b 15#8)) = (((b.toNat % 16 : ℕ) : ℝ) : EReal) := by
  have h : (IntOp.andi b 15#8).toNat = b.toNat % 16 := by
    revert b; decide +kernel
  show (((IntOp.andi b 15#8).toNat : ℝ) : EReal) = _
  rw [h]

/-- The high half of a byte, as the kernel reads it: widened, shifted right by four, narrowed. -/
theorem hi_nibble (b : BitVec 8) :
    (FloatOps.uitofp (F := Ideal) .bf16 ((IntOp.shrsi .vector (b.setWidth 32) 4#32).setWidth 8)) = (((b.toNat / 16 : ℕ) : ℝ) : EReal) := by
  have h : ((IntOp.shrsi .vector (b.setWidth 32) 4#32).setWidth 8).toNat = b.toNat / 16 := by
    revert b; decide +kernel
  show ((((IntOp.shrsi .vector (b.setWidth 32) 4#32).setWidth 8).toNat : ℝ) : EReal) = _
  rw [h]

variable (x1 : Vec Ideal S2048x512 .bf16) (x2 : Vec Ideal S1024x512 .i8) (x3 x4 : Vec Ideal S64x512 .bf16)

/-- One store of a group of the first 1024 rows: its 32 rows are the error matrix's. -/
theorem tile_lo (g r : ℕ) (hg : g < 32) (hr : r = 32 * g)
    (inb1 : ∀ a, (![r, 0] : Fin 2 → ℕ) a + S32x512.size a ≤ S2048x512.size a)
    (inb2 : ∀ a, (![r, 0] : Fin 2 → ℕ) a + S32x512.size a ≤ S1024x512.size a)
    (inb3 : ∀ a, (![g, 0] : Fin 2 → ℕ) a + S1x512.size a ≤ S64x512.size a)
    (x : S32x512.Idx) :
    shapeCast S32x512 (subf (F := Ideal) (View.ld (Val := Elt Ideal) x1 (Rect.unit ![r, 0] S32x512.size inb1) : FVec Ideal S32x512 .bf16)
      (mulf (F := Ideal) (subf (F := Ideal) (uitofp (F := Ideal) .bf16 (andi (View.ld (Val := Elt Ideal) x2 (Rect.unit ![r, 0] S32x512.size inb2) : IVec S32x512 8) (broadcast S32x512 15#8)))
          (broadcastTo S32x512 (View.ld (Val := Elt Ideal) x4 (Rect.unit ![g, 0] S1x512.size inb3)) broadcasts_S1x512_S32x512))
        (broadcastTo S32x512 (View.ld (Val := Elt Ideal) x3 (Rect.unit ![g, 0] S1x512.size inb3)) broadcasts_S1x512_S32x512)))
      shapeCasts_S32x512_S32x512 x
      = errM x1 x2 x3 x4 ((Rect.unit (s := S2048x512) ![r, 0] S32x512.size inb1).emb x) := by
  subst hr
  refine (congrFun (shapeCast_self (s := S32x512) _ _) x).trans ?_
  have hx0 : (x 0).val < 32 := (x 0).isLt
  have hx1 : (x 1).val < 512 := (x 1).isLt
  show x1 _ - (FloatOps.uitofp (F := Ideal) .bf16 (IntOp.andi (x2 _) 15#8) - x4 _) * x3 _ = err x1 x2 x3 x4 _ _
  rw [lo_nibble]
  unfold err code
  have hk : (((Rect.unit (s := S2048x512) ![32 * g, 0] S32x512.size inb1).emb x) 0).val = 32 * g + (x 0).val := by
    show 32 * g + 1 * (x 0).val = _; omega
  have hn : (((Rect.unit (s := S2048x512) ![32 * g, 0] S32x512.size inb1).emb x) 1).val = (x 1).val := by
    show 0 + 1 * (x 1).val = _; omega
  rw [if_pos (by rw [hk]; omega)]
  congr 2
  · congr 1; funext a; apply Fin.ext
    match a with | ⟨0, _⟩ => rfl | ⟨1, _⟩ => rfl
  · congr 1
    · congr 5; funext a; apply Fin.ext
      match a with
      | ⟨0, _⟩ => show 32 * g + 1 * (x 0).val = (_ : ℕ) % 1024; rw [hk]; omega
      | ⟨1, _⟩ => show 0 + 1 * (x 1).val = _; exact hn.symm ▸ by omega
    · congr 1; funext a; apply Fin.ext
      match a with
      | ⟨0, _⟩ => show g + 1 * 0 = (_ : ℕ) / 32; rw [hk]; omega
      | ⟨1, _⟩ => show 0 + 1 * (x 1).val = _; rw [hn]; omega
  · congr 1; funext a; apply Fin.ext
    match a with
      | ⟨0, _⟩ => show g + 1 * 0 = (_ : ℕ) / 32; rw [hk]; omega
      | ⟨1, _⟩ => show 0 + 1 * (x 1).val = _; rw [hn]; omega

/-- One store of a group of the last 1024 rows: its 32 rows are the error matrix's. -/
theorem tile_hi (g r rc : ℕ) (hg : 32 ≤ g) (hg' : g < 64) (hr : r = 32 * g) (hc : rc = 32 * g - 1024)
    (inb1 : ∀ a, (![r, 0] : Fin 2 → ℕ) a + S32x512.size a ≤ S2048x512.size a)
    (inb2 : ∀ a, (![rc, 0] : Fin 2 → ℕ) a + S32x512.size a ≤ S1024x512.size a)
    (inb3 : ∀ a, (![g, 0] : Fin 2 → ℕ) a + S1x512.size a ≤ S64x512.size a)
    (x : S32x512.Idx) :
    shapeCast S32x512 (subf (F := Ideal) (View.ld (Val := Elt Ideal) x1 (Rect.unit ![r, 0] S32x512.size inb1) : FVec Ideal S32x512 .bf16)
      (mulf (F := Ideal) (subf (F := Ideal) (uitofp (F := Ideal) .bf16 (trunci 8 (shrsi (extui 32 (View.ld (Val := Elt Ideal) x2 (Rect.unit ![rc, 0] S32x512.size inb2) : IVec S32x512 8) natLt_8_32) (broadcast S32x512 4#32)) natLt_8_32))
          (broadcastTo S32x512 (View.ld (Val := Elt Ideal) x4 (Rect.unit ![g, 0] S1x512.size inb3)) broadcasts_S1x512_S32x512))
        (broadcastTo S32x512 (View.ld (Val := Elt Ideal) x3 (Rect.unit ![g, 0] S1x512.size inb3)) broadcasts_S1x512_S32x512)))
      shapeCasts_S32x512_S32x512 x
      = errM x1 x2 x3 x4 ((Rect.unit (s := S2048x512) ![r, 0] S32x512.size inb1).emb x) := by
  subst hr hc
  refine (congrFun (shapeCast_self (s := S32x512) _ _) x).trans ?_
  have hx0 : (x 0).val < 32 := (x 0).isLt
  have hx1 : (x 1).val < 512 := (x 1).isLt
  show x1 _ - (FloatOps.uitofp (F := Ideal) .bf16 ((IntOp.shrsi .vector ((x2 _).setWidth 32) 4#32).setWidth 8) - x4 _) * x3 _ = err x1 x2 x3 x4 _ _
  rw [hi_nibble]
  unfold err code
  have hk : (((Rect.unit (s := S2048x512) ![32 * g, 0] S32x512.size inb1).emb x) 0).val = 32 * g + (x 0).val := by
    show 32 * g + 1 * (x 0).val = _; omega
  have hn : (((Rect.unit (s := S2048x512) ![32 * g, 0] S32x512.size inb1).emb x) 1).val = (x 1).val := by
    show 0 + 1 * (x 1).val = _; omega
  rw [if_neg (by rw [hk]; omega)]
  congr 2
  · congr 1; funext a; apply Fin.ext
    match a with | ⟨0, _⟩ => rfl | ⟨1, _⟩ => rfl
  · congr 1
    · congr 5; funext a; apply Fin.ext
      match a with
      | ⟨0, _⟩ => show 32 * g - 1024 + 1 * (x 0).val = (_ : ℕ) % 1024; rw [hk]; omega
      | ⟨1, _⟩ => show 0 + 1 * (x 1).val = _; exact hn.symm ▸ by omega
    · congr 1; funext a; apply Fin.ext
      match a with
      | ⟨0, _⟩ => show g + 1 * 0 = (_ : ℕ) / 32; rw [hk]; omega
      | ⟨1, _⟩ => show 0 + 1 * (x 1).val = _; rw [hn]; omega
  · congr 1; funext a; apply Fin.ext
    match a with
      | ⟨0, _⟩ => show g + 1 * 0 = (_ : ℕ) / 32; rw [hk]; omega
      | ⟨1, _⟩ => show 0 + 1 * (x 1).val = _; rw [hn]; omega

/-- Reading the whole scratch buffer back after stores that are all blocks of one matrix, and cover it, reads that matrix. -/
theorem readCov_blocks {κ : Kind} {sp : Space} (v : View sig κ sp S2048x512 .bf16) (G : Vec Ideal S2048x512 .bf16)
    (L : List (View.Piece (Elt Ideal) S2048x512 .bf16)) (h : View.PiecesOf G L) (hc : ∀ y, ∃ p ∈ L, y ∈ p.1.set)
    (inb : ∀ a, (![0, 0] : Fin 2 → ℕ) a + S2048x512.size a ≤ S2048x512.size a) :
    v.readCov L (Rect.unit ![0, 0] S2048x512.size inb).toLoadRect = G := by
  rw [View.readCov_eq_canon_ld _ _ _ hc, View.ld_unit_zero (S := S2048x512) hz]
  funext y
  exact View.canon_apply_of_pieces G L h.mem y (hc y)

/-- Case A: the scratch buffer, read back whole after its 64 stores, is the error matrix of the point's blocks. -/
theorem scratch_A (c : Dev nD) (arg2 : Memref sig .tc .vmem S2048x512 .bf16) (harg2 : arg2.IsWhole) (arg3 : Memref sig .tc .vmem S1024x512 .i8) (harg3 : arg3.IsWhole)
    (arg4 : Memref sig .tc .vmem S64x512 .bf16) (harg4 : arg4.IsWhole) (arg5 : Memref sig .tc .vmem S64x512 .bf16) (harg5 : arg5.IsWhole)
    (arg13 : Memref sig .tc .vmem S2048x512 .bf16) :
    kernelRun0_A.sl.v1032 (F := Ideal) c arg2 harg2 arg3 harg3 arg4 harg4 arg5 harg5 arg13 x1 x2 x3 x4 = errM x1 x2 x3 x4 := by
  unfold kernelRun0_A.sl.v1032 kernelRun0_A.sl.HS1_64
  sl_unfold_words
  simp only [View.readAt_eq_ld, harg2.read_unread, harg3.read_unread, harg4.read_unread, harg5.read_unread]
  refine readCov_blocks _ _ _ ?_ ?_ _
  · exact ⟨tile_hi x1 x2 x3 x4 63 2016 992 (by decide) (by decide) rfl rfl _ _ _,
      tile_hi x1 x2 x3 x4 62 1984 960 (by decide) (by decide) rfl rfl _ _ _,
      tile_hi x1 x2 x3 x4 61 1952 928 (by decide) (by decide) rfl rfl _ _ _,
      tile_hi x1 x2 x3 x4 60 1920 896 (by decide) (by decide) rfl rfl _ _ _,
      tile_hi x1 x2 x3 x4 59 1888 864 (by decide) (by decide) rfl rfl _ _ _,
      tile_hi x1 x2 x3 x4 58 1856 832 (by decide) (by decide) rfl rfl _ _ _,
      tile_hi x1 x2 x3 x4 57 1824 800 (by decide) (by decide) rfl rfl _ _ _,
      tile_hi x1 x2 x3 x4 56 1792 768 (by decide) (by decide) rfl rfl _ _ _,
      tile_hi x1 x2 x3 x4 55 1760 736 (by decide) (by decide) rfl rfl _ _ _,
      tile_hi x1 x2 x3 x4 54 1728 704 (by decide) (by decide) rfl rfl _ _ _,
      tile_hi x1 x2 x3 x4 53 1696 672 (by decide) (by decide) rfl rfl _ _ _,
      tile_hi x1 x2 x3 x4 52 1664 640 (by decide) (by decide) rfl rfl _ _ _,
      tile_hi x1 x2 x3 x4 51 1632 608 (by decide) (by decide) rfl rfl _ _ _,
      tile_hi x1 x2 x3 x4 50 1600 576 (by decide) (by decide) rfl rfl _ _ _,
      tile_hi x1 x2 x3 x4 49 1568 544 (by decide) (by decide) rfl rfl _ _ _,
      tile_hi x1 x2 x3 x4 48 1536 512 (by decide) (by decide) rfl rfl _ _ _,
      tile_hi x1 x2 x3 x4 47 1504 480 (by decide) (by decide) rfl rfl _ _ _,
      tile_hi x1 x2 x3 x4 46 1472 448 (by decide) (by decide) rfl rfl _ _ _,
      tile_hi x1 x2 x3 x4 45 1440 416 (by decide) (by decide) rfl rfl _ _ _,
      tile_hi x1 x2 x3 x4 44 1408 384 (by decide) (by decide) rfl rfl _ _ _,
      tile_hi x1 x2 x3 x4 43 1376 352 (by decide) (by decide) rfl rfl _ _ _,
      tile_hi x1 x2 x3 x4 42 1344 320 (by decide) (by decide) rfl rfl _ _ _,
      tile_hi x1 x2 x3 x4 41 1312 288 (by decide) (by decide) rfl rfl _ _ _,
      tile_hi x1 x2 x3 x4 40 1280 256 (by decide) (by decide) rfl rfl _ _ _,
      tile_hi x1 x2 x3 x4 39 1248 224 (by decide) (by decide) rfl rfl _ _ _,
      tile_hi x1 x2 x3 x4 38 1216 192 (by decide) (by decide) rfl rfl _ _ _,
      tile_hi x1 x2 x3 x4 37 1184 160 (by decide) (by decide) rfl rfl _ _ _,
      tile_hi x1 x2 x3 x4 36 1152 128 (by decide) (by decide) rfl rfl _ _ _,
      tile_hi x1 x2 x3 x4 35 1120 96 (by decide) (by decide) rfl rfl _ _ _,
      tile_hi x1 x2 x3 x4 34 1088 64 (by decide) (by decide) rfl rfl _ _ _,
      tile_hi x1 x2 x3 x4 33 1056 32 (by decide) (by decide) rfl rfl _ _ _,
      tile_hi x1 x2 x3 x4 32 1024 0 (by decide) (by decide) rfl rfl _ _ _,
      tile_lo x1 x2 x3 x4 31 992 (by decide) rfl _ _ _,
      tile_lo x1 x2 x3 x4 30 960 (by decide) rfl _ _ _,
      tile_lo x1 x2 x3 x4 29 928 (by decide) rfl _ _ _,
      tile_lo x1 x2 x3 x4 28 896 (by decide) rfl _ _ _,
      tile_lo x1 x2 x3 x4 27 864 (by decide) rfl _ _ _,
      tile_lo x1 x2 x3 x4 26 832 (by decide) rfl _ _ _,
      tile_lo x1 x2 x3 x4 25 800 (by decide) rfl _ _ _,
      tile_lo x1 x2 x3 x4 24 768 (by decide) rfl _ _ _,
      tile_lo x1 x2 x3 x4 23 736 (by decide) rfl _ _ _,
      tile_lo x1 x2 x3 x4 22 704 (by decide) rfl _ _ _,
      tile_lo x1 x2 x3 x4 21 672 (by decide) rfl _ _ _,
      tile_lo x1 x2 x3 x4 20 640 (by decide) rfl _ _ _,
      tile_lo x1 x2 x3 x4 19 608 (by decide) rfl _ _ _,
      tile_lo x1 x2 x3 x4 18 576 (by decide) rfl _ _ _,
      tile_lo x1 x2 x3 x4 17 544 (by decide) rfl _ _ _,
      tile_lo x1 x2 x3 x4 16 512 (by decide) rfl _ _ _,
      tile_lo x1 x2 x3 x4 15 480 (by decide) rfl _ _ _,
      tile_lo x1 x2 x3 x4 14 448 (by decide) rfl _ _ _,
      tile_lo x1 x2 x3 x4 13 416 (by decide) rfl _ _ _,
      tile_lo x1 x2 x3 x4 12 384 (by decide) rfl _ _ _,
      tile_lo x1 x2 x3 x4 11 352 (by decide) rfl _ _ _,
      tile_lo x1 x2 x3 x4 10 320 (by decide) rfl _ _ _,
      tile_lo x1 x2 x3 x4 9 288 (by decide) rfl _ _ _,
      tile_lo x1 x2 x3 x4 8 256 (by decide) rfl _ _ _,
      tile_lo x1 x2 x3 x4 7 224 (by decide) rfl _ _ _,
      tile_lo x1 x2 x3 x4 6 192 (by decide) rfl _ _ _,
      tile_lo x1 x2 x3 x4 5 160 (by decide) rfl _ _ _,
      tile_lo x1 x2 x3 x4 4 128 (by decide) rfl _ _ _,
      tile_lo x1 x2 x3 x4 3 96 (by decide) rfl _ _ _,
      tile_lo x1 x2 x3 x4 2 64 (by decide) rfl _ _ _,
      tile_lo x1 x2 x3 x4 1 32 (by decide) rfl _ _ _,
      tile_lo x1 x2 x3 x4 0 0 (by decide) rfl _ _ _, trivial⟩
  · exact View.cover_of_tiledL _ S32x512.size (by sl_kernel_rfl)

/-- Case B: the scratch buffer, read back whole after its 64 stores, is the error matrix of the point's blocks. -/
theorem scratch_B (c : Dev nD) (arg2 : Memref sig .tc .vmem S2048x512 .bf16) (harg2 : arg2.IsWhole) (arg3 : Memref sig .tc .vmem S1024x512 .i8) (harg3 : arg3.IsWhole)
    (arg4 : Memref sig .tc .vmem S64x512 .bf16) (harg4 : arg4.IsWhole) (arg5 : Memref sig .tc .vmem S64x512 .bf16) (harg5 : arg5.IsWhole)
    (arg13 : Memref sig .tc .vmem S2048x512 .bf16) :
    kernelRun0_B.sl.v1032 (F := Ideal) c arg2 harg2 arg3 harg3 arg4 harg4 arg5 harg5 arg13 x1 x2 x3 x4 = errM x1 x2 x3 x4 := by
  unfold kernelRun0_B.sl.v1032 kernelRun0_B.sl.HS1_64
  sl_unfold_words
  simp only [View.readAt_eq_ld, harg2.read_unread, harg3.read_unread, harg4.read_unread, harg5.read_unread]
  refine readCov_blocks _ _ _ ?_ ?_ _
  · exact ⟨tile_hi x1 x2 x3 x4 63 2016 992 (by decide) (by decide) rfl rfl _ _ _,
      tile_hi x1 x2 x3 x4 62 1984 960 (by decide) (by decide) rfl rfl _ _ _,
      tile_hi x1 x2 x3 x4 61 1952 928 (by decide) (by decide) rfl rfl _ _ _,
      tile_hi x1 x2 x3 x4 60 1920 896 (by decide) (by decide) rfl rfl _ _ _,
      tile_hi x1 x2 x3 x4 59 1888 864 (by decide) (by decide) rfl rfl _ _ _,
      tile_hi x1 x2 x3 x4 58 1856 832 (by decide) (by decide) rfl rfl _ _ _,
      tile_hi x1 x2 x3 x4 57 1824 800 (by decide) (by decide) rfl rfl _ _ _,
      tile_hi x1 x2 x3 x4 56 1792 768 (by decide) (by decide) rfl rfl _ _ _,
      tile_hi x1 x2 x3 x4 55 1760 736 (by decide) (by decide) rfl rfl _ _ _,
      tile_hi x1 x2 x3 x4 54 1728 704 (by decide) (by decide) rfl rfl _ _ _,
      tile_hi x1 x2 x3 x4 53 1696 672 (by decide) (by decide) rfl rfl _ _ _,
      tile_hi x1 x2 x3 x4 52 1664 640 (by decide) (by decide) rfl rfl _ _ _,
      tile_hi x1 x2 x3 x4 51 1632 608 (by decide) (by decide) rfl rfl _ _ _,
      tile_hi x1 x2 x3 x4 50 1600 576 (by decide) (by decide) rfl rfl _ _ _,
      tile_hi x1 x2 x3 x4 49 1568 544 (by decide) (by decide) rfl rfl _ _ _,
      tile_hi x1 x2 x3 x4 48 1536 512 (by decide) (by decide) rfl rfl _ _ _,
      tile_hi x1 x2 x3 x4 47 1504 480 (by decide) (by decide) rfl rfl _ _ _,
      tile_hi x1 x2 x3 x4 46 1472 448 (by decide) (by decide) rfl rfl _ _ _,
      tile_hi x1 x2 x3 x4 45 1440 416 (by decide) (by decide) rfl rfl _ _ _,
      tile_hi x1 x2 x3 x4 44 1408 384 (by decide) (by decide) rfl rfl _ _ _,
      tile_hi x1 x2 x3 x4 43 1376 352 (by decide) (by decide) rfl rfl _ _ _,
      tile_hi x1 x2 x3 x4 42 1344 320 (by decide) (by decide) rfl rfl _ _ _,
      tile_hi x1 x2 x3 x4 41 1312 288 (by decide) (by decide) rfl rfl _ _ _,
      tile_hi x1 x2 x3 x4 40 1280 256 (by decide) (by decide) rfl rfl _ _ _,
      tile_hi x1 x2 x3 x4 39 1248 224 (by decide) (by decide) rfl rfl _ _ _,
      tile_hi x1 x2 x3 x4 38 1216 192 (by decide) (by decide) rfl rfl _ _ _,
      tile_hi x1 x2 x3 x4 37 1184 160 (by decide) (by decide) rfl rfl _ _ _,
      tile_hi x1 x2 x3 x4 36 1152 128 (by decide) (by decide) rfl rfl _ _ _,
      tile_hi x1 x2 x3 x4 35 1120 96 (by decide) (by decide) rfl rfl _ _ _,
      tile_hi x1 x2 x3 x4 34 1088 64 (by decide) (by decide) rfl rfl _ _ _,
      tile_hi x1 x2 x3 x4 33 1056 32 (by decide) (by decide) rfl rfl _ _ _,
      tile_hi x1 x2 x3 x4 32 1024 0 (by decide) (by decide) rfl rfl _ _ _,
      tile_lo x1 x2 x3 x4 31 992 (by decide) rfl _ _ _,
      tile_lo x1 x2 x3 x4 30 960 (by decide) rfl _ _ _,
      tile_lo x1 x2 x3 x4 29 928 (by decide) rfl _ _ _,
      tile_lo x1 x2 x3 x4 28 896 (by decide) rfl _ _ _,
      tile_lo x1 x2 x3 x4 27 864 (by decide) rfl _ _ _,
      tile_lo x1 x2 x3 x4 26 832 (by decide) rfl _ _ _,
      tile_lo x1 x2 x3 x4 25 800 (by decide) rfl _ _ _,
      tile_lo x1 x2 x3 x4 24 768 (by decide) rfl _ _ _,
      tile_lo x1 x2 x3 x4 23 736 (by decide) rfl _ _ _,
      tile_lo x1 x2 x3 x4 22 704 (by decide) rfl _ _ _,
      tile_lo x1 x2 x3 x4 21 672 (by decide) rfl _ _ _,
      tile_lo x1 x2 x3 x4 20 640 (by decide) rfl _ _ _,
      tile_lo x1 x2 x3 x4 19 608 (by decide) rfl _ _ _,
      tile_lo x1 x2 x3 x4 18 576 (by decide) rfl _ _ _,
      tile_lo x1 x2 x3 x4 17 544 (by decide) rfl _ _ _,
      tile_lo x1 x2 x3 x4 16 512 (by decide) rfl _ _ _,
      tile_lo x1 x2 x3 x4 15 480 (by decide) rfl _ _ _,
      tile_lo x1 x2 x3 x4 14 448 (by decide) rfl _ _ _,
      tile_lo x1 x2 x3 x4 13 416 (by decide) rfl _ _ _,
      tile_lo x1 x2 x3 x4 12 384 (by decide) rfl _ _ _,
      tile_lo x1 x2 x3 x4 11 352 (by decide) rfl _ _ _,
      tile_lo x1 x2 x3 x4 10 320 (by decide) rfl _ _ _,
      tile_lo x1 x2 x3 x4 9 288 (by decide) rfl _ _ _,
      tile_lo x1 x2 x3 x4 8 256 (by decide) rfl _ _ _,
      tile_lo x1 x2 x3 x4 7 224 (by decide) rfl _ _ _,
      tile_lo x1 x2 x3 x4 6 192 (by decide) rfl _ _ _,
      tile_lo x1 x2 x3 x4 5 160 (by decide) rfl _ _ _,
      tile_lo x1 x2 x3 x4 4 128 (by decide) rfl _ _ _,
      tile_lo x1 x2 x3 x4 3 96 (by decide) rfl _ _ _,
      tile_lo x1 x2 x3 x4 2 64 (by decide) rfl _ _ _,
      tile_lo x1 x2 x3 x4 1 32 (by decide) rfl _ _ _,
      tile_lo x1 x2 x3 x4 0 0 (by decide) rfl _ _ _, trivial⟩
  · exact View.cover_of_tiledL _ S32x512.size (by sl_kernel_rfl)

/-- Case C: the scratch buffer, read back whole after its 64 stores, is the error matrix of the point's blocks. -/
theorem scratch_C (c : Dev nD) (arg2 : Memref sig .tc .vmem S2048x512 .bf16) (harg2 : arg2.IsWhole) (arg3 : Memref sig .tc .vmem S1024x512 .i8) (harg3 : arg3.IsWhole)
    (arg4 : Memref sig .tc .vmem S64x512 .bf16) (harg4 : arg4.IsWhole) (arg5 : Memref sig .tc .vmem S64x512 .bf16) (harg5 : arg5.IsWhole)
    (arg13 : Memref sig .tc .vmem S2048x512 .bf16) :
    kernelRun0_C.sl.v1032 (F := Ideal) c arg2 harg2 arg3 harg3 arg4 harg4 arg5 harg5 arg13 x1 x2 x3 x4 = errM x1 x2 x3 x4 := by
  unfold kernelRun0_C.sl.v1032 kernelRun0_C.sl.HS1_64
  sl_unfold_words
  simp only [View.readAt_eq_ld, harg2.read_unread, harg3.read_unread, harg4.read_unread, harg5.read_unread]
  refine readCov_blocks _ _ _ ?_ ?_ _
  · exact ⟨tile_hi x1 x2 x3 x4 63 2016 992 (by decide) (by decide) rfl rfl _ _ _,
      tile_hi x1 x2 x3 x4 62 1984 960 (by decide) (by decide) rfl rfl _ _ _,
      tile_hi x1 x2 x3 x4 61 1952 928 (by decide) (by decide) rfl rfl _ _ _,
      tile_hi x1 x2 x3 x4 60 1920 896 (by decide) (by decide) rfl rfl _ _ _,
      tile_hi x1 x2 x3 x4 59 1888 864 (by decide) (by decide) rfl rfl _ _ _,
      tile_hi x1 x2 x3 x4 58 1856 832 (by decide) (by decide) rfl rfl _ _ _,
      tile_hi x1 x2 x3 x4 57 1824 800 (by decide) (by decide) rfl rfl _ _ _,
      tile_hi x1 x2 x3 x4 56 1792 768 (by decide) (by decide) rfl rfl _ _ _,
      tile_hi x1 x2 x3 x4 55 1760 736 (by decide) (by decide) rfl rfl _ _ _,
      tile_hi x1 x2 x3 x4 54 1728 704 (by decide) (by decide) rfl rfl _ _ _,
      tile_hi x1 x2 x3 x4 53 1696 672 (by decide) (by decide) rfl rfl _ _ _,
      tile_hi x1 x2 x3 x4 52 1664 640 (by decide) (by decide) rfl rfl _ _ _,
      tile_hi x1 x2 x3 x4 51 1632 608 (by decide) (by decide) rfl rfl _ _ _,
      tile_hi x1 x2 x3 x4 50 1600 576 (by decide) (by decide) rfl rfl _ _ _,
      tile_hi x1 x2 x3 x4 49 1568 544 (by decide) (by decide) rfl rfl _ _ _,
      tile_hi x1 x2 x3 x4 48 1536 512 (by decide) (by decide) rfl rfl _ _ _,
      tile_hi x1 x2 x3 x4 47 1504 480 (by decide) (by decide) rfl rfl _ _ _,
      tile_hi x1 x2 x3 x4 46 1472 448 (by decide) (by decide) rfl rfl _ _ _,
      tile_hi x1 x2 x3 x4 45 1440 416 (by decide) (by decide) rfl rfl _ _ _,
      tile_hi x1 x2 x3 x4 44 1408 384 (by decide) (by decide) rfl rfl _ _ _,
      tile_hi x1 x2 x3 x4 43 1376 352 (by decide) (by decide) rfl rfl _ _ _,
      tile_hi x1 x2 x3 x4 42 1344 320 (by decide) (by decide) rfl rfl _ _ _,
      tile_hi x1 x2 x3 x4 41 1312 288 (by decide) (by decide) rfl rfl _ _ _,
      tile_hi x1 x2 x3 x4 40 1280 256 (by decide) (by decide) rfl rfl _ _ _,
      tile_hi x1 x2 x3 x4 39 1248 224 (by decide) (by decide) rfl rfl _ _ _,
      tile_hi x1 x2 x3 x4 38 1216 192 (by decide) (by decide) rfl rfl _ _ _,
      tile_hi x1 x2 x3 x4 37 1184 160 (by decide) (by decide) rfl rfl _ _ _,
      tile_hi x1 x2 x3 x4 36 1152 128 (by decide) (by decide) rfl rfl _ _ _,
      tile_hi x1 x2 x3 x4 35 1120 96 (by decide) (by decide) rfl rfl _ _ _,
      tile_hi x1 x2 x3 x4 34 1088 64 (by decide) (by decide) rfl rfl _ _ _,
      tile_hi x1 x2 x3 x4 33 1056 32 (by decide) (by decide) rfl rfl _ _ _,
      tile_hi x1 x2 x3 x4 32 1024 0 (by decide) (by decide) rfl rfl _ _ _,
      tile_lo x1 x2 x3 x4 31 992 (by decide) rfl _ _ _,
      tile_lo x1 x2 x3 x4 30 960 (by decide) rfl _ _ _,
      tile_lo x1 x2 x3 x4 29 928 (by decide) rfl _ _ _,
      tile_lo x1 x2 x3 x4 28 896 (by decide) rfl _ _ _,
      tile_lo x1 x2 x3 x4 27 864 (by decide) rfl _ _ _,
      tile_lo x1 x2 x3 x4 26 832 (by decide) rfl _ _ _,
      tile_lo x1 x2 x3 x4 25 800 (by decide) rfl _ _ _,
      tile_lo x1 x2 x3 x4 24 768 (by decide) rfl _ _ _,
      tile_lo x1 x2 x3 x4 23 736 (by decide) rfl _ _ _,
      tile_lo x1 x2 x3 x4 22 704 (by decide) rfl _ _ _,
      tile_lo x1 x2 x3 x4 21 672 (by decide) rfl _ _ _,
      tile_lo x1 x2 x3 x4 20 640 (by decide) rfl _ _ _,
      tile_lo x1 x2 x3 x4 19 608 (by decide) rfl _ _ _,
      tile_lo x1 x2 x3 x4 18 576 (by decide) rfl _ _ _,
      tile_lo x1 x2 x3 x4 17 544 (by decide) rfl _ _ _,
      tile_lo x1 x2 x3 x4 16 512 (by decide) rfl _ _ _,
      tile_lo x1 x2 x3 x4 15 480 (by decide) rfl _ _ _,
      tile_lo x1 x2 x3 x4 14 448 (by decide) rfl _ _ _,
      tile_lo x1 x2 x3 x4 13 416 (by decide) rfl _ _ _,
      tile_lo x1 x2 x3 x4 12 384 (by decide) rfl _ _ _,
      tile_lo x1 x2 x3 x4 11 352 (by decide) rfl _ _ _,
      tile_lo x1 x2 x3 x4 10 320 (by decide) rfl _ _ _,
      tile_lo x1 x2 x3 x4 9 288 (by decide) rfl _ _ _,
      tile_lo x1 x2 x3 x4 8 256 (by decide) rfl _ _ _,
      tile_lo x1 x2 x3 x4 7 224 (by decide) rfl _ _ _,
      tile_lo x1 x2 x3 x4 6 192 (by decide) rfl _ _ _,
      tile_lo x1 x2 x3 x4 5 160 (by decide) rfl _ _ _,
      tile_lo x1 x2 x3 x4 4 128 (by decide) rfl _ _ _,
      tile_lo x1 x2 x3 x4 3 96 (by decide) rfl _ _ _,
      tile_lo x1 x2 x3 x4 2 64 (by decide) rfl _ _ _,
      tile_lo x1 x2 x3 x4 1 32 (by decide) rfl _ _ _,
      tile_lo x1 x2 x3 x4 0 0 (by decide) rfl _ _ _, trivial⟩
  · exact View.cover_of_tiledL _ S32x512.size (by sl_kernel_rfl)

end Cert.KernelIdeal.Value

end
-- ==== Proof.Tiles.lean ====
/- What the six row tiles of a grid point compute, each read at an entry: the residual of 256 rows, the lane sums of its
   squares, its product with bᵀ and the product pᵀ · residual; and the products of the first and of the last point. -/
module

public import proofs.«01_k».proof.Proof.Dequant
public import Idealize.ShloMosaic.Lib.Pipeline.ValueKit.Tiles

@[expose] public section

set_option maxRecDepth 16384

noncomputable section

open Idealize.ShloMosaic Idealize.ShloMosaic.TcCoe Idealize.ShloMosaic.Tactic Idealize.ShloMosaic.ValueIdx
open Idealize.SL Idealize.SL.Sem
open scoped BigOperators

namespace Cert.KernelIdeal.Value

open Cert.KernelIdeal Cert.KernelIdeal.Gen Cert.Spec

/-- The dimension numbers of `[K,M]ᵀ × [K,N]`. -/
theorem matmul_lhsT_apply {K M N : ℕ} {φ₁ φ₂ : FTy} (D : DotDims ⟨2, ![K, M]⟩ ⟨2, ![K, N]⟩ ⟨2, ![M, N]⟩)
    (hr : D.contr.rank = 1) (hs : D.contr.size ⟨0, by rw [hr]; exact Nat.one_pos⟩ = K)
    (hl : ∀ (r : Fin M) (c : Fin N) (k : Fin K), D.lhsIdx (ix2 r c) ((contrEquiv1 D K hr hs).symm k) = ix2 k r)
    (hrr : ∀ (r : Fin M) (c : Fin N) (k : Fin K), D.rhsIdx (ix2 r c) ((contrEquiv1 D K hr hs).symm k) = ix2 k c)
    (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul D prec lhs rhs acc (ix2 r c) = acc (ix2 r c) + ∑ k : Fin K, lhs (ix2 k r) * rhs (ix2 k c) := by
  rw [Ideal.matmul_apply, ← Equiv.sum_comp (contrEquiv1 D K hr hs).symm]
  refine congrArg (acc (ix2 r c) + ·) (Finset.sum_congr rfl fun k _ => ?_)
  rw [hl, hrr]

/-- The f32 constant zero. -/
theorem zero32 : Ideal.ofBits .f32 0x00000000#32 = 0 := Ideal.ofBits_zero_f32
/-- The f32 constant minus two. -/
theorem negTwo32 : Ideal.ofBits .f32 0xC0000000#32 = ((-2 : ℝ) : EReal) := by
  simp [Ideal.ofBits, Ideal.ieee, -EReal.coe_mul, -EReal.coe_neg]; norm_num

/-- `[K,M]ᵀ × [K,N]` at the tiles' extents, into a zero accumulator. -/
theorem mm_db (lhs : FVec Ideal S256x32 .bf16) (rhs : FVec Ideal S256x512 .bf16) (j : S32x512.Idx) :
    matmul dot_S256x32_S256x512_S32x512_0_0_1_1_n_n none lhs rhs (constant S32x512 .f32 0x00000000#32) j
      = ∑ k : Fin 256, lhs (ix2 k (j 0)) * rhs (ix2 k (j 1)) := by
  rw [eq_ix2 j]
  refine (matmul_lhsT_apply (K := 256) (M := 32) (N := 512) _ rfl rfl (fun r c k => ?_) (fun r c k => ?_) none lhs rhs _ _ _).trans ?_
  · have hk := contrEquiv1_symm_val dot_S256x32_S256x512_S32x512_0_0_1_1_n_n 256 rfl rfl k
    funext a; apply Fin.ext
    match a with | ⟨0, _⟩ => exact hk | ⟨1, _⟩ => rfl
  · have hk := contrEquiv1_symm_val dot_S256x32_S256x512_S32x512_0_0_1_1_n_n 256 rfl rfl k
    funext a; apply Fin.ext
    match a with | ⟨0, _⟩ => exact hk | ⟨1, _⟩ => rfl
  · show Ideal.ofBits .f32 0x00000000#32 + _ = _
    rw [zero32, zero_add]

/-- `xᵀ · g` of the last point, into a zero accumulator. -/
theorem mm_da (lhs : FVec Ideal S1536x2048 .bf16) (rhs : FVec Ideal S1536x32 .bf16) (j : S2048x32.Idx) :
    matmul dot_S1536x2048_S1536x32_S2048x32_0_0_1_1_n_n none lhs rhs (constant S2048x32 .f32 0x00000000#32) j
      = ∑ k : Fin 1536, lhs (ix2 k (j 0)) * rhs (ix2 k (j 1)) := by
  rw [eq_ix2 j]
  refine (matmul_lhsT_apply (K := 1536) (M := 2048) (N := 32) _ rfl rfl (fun r c k => ?_) (fun r c k => ?_) none lhs rhs _ _ _).trans ?_
  · have hk := contrEquiv1_symm_val dot_S1536x2048_S1536x32_S2048x32_0_0_1_1_n_n 1536 rfl rfl k
    funext a; apply Fin.ext
    match a with | ⟨0, _⟩ => exact hk | ⟨1, _⟩ => rfl
  · have hk := contrEquiv1_symm_val dot_S1536x2048_S1536x32_S2048x32_0_0_1_1_n_n 1536 rfl rfl k
    funext a; apply Fin.ext
    match a with | ⟨0, _⟩ => exact hk | ⟨1, _⟩ => rfl
  · show Ideal.ofBits .f32 0x00000000#32 + _ = _
    rw [zero32, zero_add]

/-- A tile's `x · e` into a zero accumulator. -/
theorem mm_xe (lhs : FVec Ideal S256x2048 .bf16) (rhs : FVec Ideal S2048x512 .bf16) (j : S256x512.Idx) :
    matmul dot_S256x2048_S2048x512_S256x512_1_0_0_1_n_n none lhs rhs (constant S256x512 .f32 0x00000000#32) j
      = ∑ k : Fin 2048, lhs (ix2 (j 0) k) * rhs (ix2 k (j 1)) := by
  rw [eq_ix2 j]
  refine (Ideal.matmul_plain_apply (M := 256) (K := 2048) (N := 512) none lhs rhs _ _ _).trans ?_
  show Ideal.ofBits .f32 0x00000000#32 + _ = _
  rw [zero32, zero_add]

/-- A tile's `p · b` into a zero accumulator. -/
theorem mm_pb (lhs : FVec Ideal S256x32 .bf16) (rhs : FVec Ideal S32x512 .bf16) (j : S256x512.Idx) :
    matmul dot_S256x32_S32x512_S256x512_1_0_0_1_n_n none lhs rhs (constant S256x512 .f32 0x00000000#32) j
      = ∑ k : Fin 32, lhs (ix2 (j 0) k) * rhs (ix2 k (j 1)) := by
  rw [eq_ix2 j]
  refine (Ideal.matmul_plain_apply (M := 256) (K := 32) (N := 512) none lhs rhs _ _ _).trans ?_
  show Ideal.ofBits .f32 0x00000000#32 + _ = _
  rw [zero32, zero_add]

/-- The first point's `x · a` into a zero accumulator. -/
theorem mm_xa (lhs : FVec Ideal S1536x2048 .bf16) (rhs : FVec Ideal S2048x32 .bf16) (j : S1536x32.Idx) :
    matmul dot_S1536x2048_S2048x32_S1536x32_1_0_0_1_n_n none lhs rhs (constant S1536x32 .f32 0x00000000#32) j
      = ∑ k : Fin 2048, lhs (ix2 (j 0) k) * rhs (ix2 k (j 1)) := by
  rw [eq_ix2 j]
  refine (Ideal.matmul_plain_apply (M := 1536) (K := 2048) (N := 32) none lhs rhs _ _ _).trans ?_
  show Ideal.ofBits .f32 0x00000000#32 + _ = _
  rw [zero32, zero_add]

/-- A tile's residual · bᵀ into a zero accumulator. -/
theorem mm_g (lhs : FVec Ideal S256x512 .bf16) (rhs : FVec Ideal S32x512 .bf16) (j : S256x32.Idx) :
    matmul dot_S256x512_S32x512_S256x32_1_1_0_0_n_n none lhs rhs (constant S256x32 .f32 0x00000000#32) j
      = ∑ k : Fin 512, lhs (ix2 (j 0) k) * rhs (ix2 (j 1) k) := by
  rw [eq_ix2 j]
  refine (Ideal.matmul_transposedRhs_apply (M := 256) (K := 512) (N := 32) none lhs rhs _ _ _).trans ?_
  show Ideal.ofBits .f32 0x00000000#32 + _ = _
  rw [zero32, zero_add]

variable (x0 : Vec Ideal S1536x2048 .bf16) (E : Vec Ideal S2048x512 .bf16) (p : Vec Ideal S1536x32 .bf16) (b : Vec Ideal S32x512 .bf16)

/-- Row `i` of the tile that starts at row `o`. -/
abbrev rowAt (o : ℕ) (ho : o + 256 ≤ 1536) (i : Fin 256) : Fin 1536 := ⟨o + i.val, by have := i.isLt; omega⟩

/-- 256 rows of a matrix of 1536, read at an entry. -/
theorem ld_rows {N : ℕ} {e : EltTy} (X : Vec Ideal ⟨2, ![1536, N]⟩ e) (o : ℕ) (ho : o + 256 ≤ 1536)
    (inb : ∀ a, (![o, 0] : Fin 2 → ℕ) a + (![256, N] : Fin 2 → ℕ) a ≤ (⟨2, ![1536, N]⟩ : Shape).size a) (i : Fin 256) (k : Fin N) :
    View.ld (Val := Elt Ideal) X (Rect.unit ![o, 0] ![256, N] inb) (ix2 i k) = X (ix2 (rowAt o ho i) k) :=
  View.ld_unit_apply_of X _ _ _ _ _ fun a => by
    match a with
    | ⟨0, _⟩ => rfl
    | ⟨1, _⟩ => exact (Nat.zero_add _).symm

/-- A tile's residual. -/
theorem tile_res (o : ℕ) (ho : o + 256 ≤ 1536)
    (inb : ∀ a, (![o, 0] : Fin 2 → ℕ) a + S256x2048.size a ≤ S1536x2048.size a)
    (inb' : ∀ a, (![o, 0] : Fin 2 → ℕ) a + S256x32.size a ≤ S1536x32.size a) (x : S256x512.Idx) :
    k0_pay98 (F := Ideal) b (View.ld (Val := Elt Ideal) p (Rect.unit ![o, 0] S256x32.size inb'))
      (View.ld (Val := Elt Ideal) x0 (Rect.unit ![o, 0] S256x2048.size inb)) E x
      = resM x0 E p b (ix2 (rowAt o ho (x 0)) (x 1)) := by
  unfold k0_pay98
  dsimp only
  rw [shapeCast_self, ValueIdx.subf_apply]
  refine (congrArg₂ (· - ·) (mm_xe _ _ _) (mm_pb _ _ _)).trans ?_
  unfold resM res
  congr 1
  · exact Finset.sum_congr rfl fun k _ => congrArg (· * _) (ld_rows (N := 2048) (e := .bf16) x0 o ho inb _ k)
  · exact Finset.sum_congr rfl fun k _ => congrArg (· * _) (ld_rows (N := 32) (e := .bf16) p o ho inb' _ k)

/-- A tile's entry placed in the whole: rows `o …`, all columns. -/
theorem emb_rows {N : ℕ} (o : ℕ) (ho : o + 256 ≤ 1536)
    (inb : ∀ a, (![o, 0] : Fin 2 → ℕ) a + (![256, N] : Fin 2 → ℕ) a ≤ (⟨2, ![1536, N]⟩ : Shape).size a)
    (x : (⟨2, ![256, N]⟩ : Shape).Idx) :
    (Rect.unit (s := ⟨2, ![1536, N]⟩) ![o, 0] ![256, N] inb).emb x = ix2 (rowAt o ho (x 0)) (x 1) := by
  funext a; apply Fin.ext
  match a with
  | ⟨0, _⟩ => show o + 1 * (x 0).val = o + (x 0).val; omega
  | ⟨1, _⟩ => show 0 + 1 * (x 1).val = (x 1).val; omega

/-- One run of 128 columns of a tile, read at an entry. -/
theorem lanes (q : ℕ) (hq : q < 4) (R : FVec Ideal S256x512 .f32) (h : S256x512.Slices ![0, 128 * q] S256x128) (x : S256x128.Idx) :
    extractStridedSlice S256x128 ![0, 128 * q] R h x
      = R (ix2 (x 0) ⟨128 * q + (x 1).val, by have : (x 1).val < 128 := (x 1).isLt; omega⟩) := by
  refine congrArg R (funext fun a => Fin.ext ?_)
  match a with
  | ⟨0, _⟩ => exact Nat.zero_add _
  | ⟨1, _⟩ => rfl

/-- A tile's store into the lane sums. -/
theorem tile_loss (lo : Vec Ideal S1536x128 .f32) (o : ℕ) (ho : o + 256 ≤ 1536)
    (inb : ∀ a, (![o, 0] : Fin 2 → ℕ) a + S256x2048.size a ≤ S1536x2048.size a)
    (inb' : ∀ a, (![o, 0] : Fin 2 → ℕ) a + S256x32.size a ≤ S1536x32.size a)
    (inb3 inb4 : ∀ a, (![o, 0] : Fin 2 → ℕ) a + S256x128.size a ≤ S1536x128.size a) (x : S256x128.Idx) :
    k0_pay99 (F := Ideal) b (View.ld (Val := Elt Ideal) p (Rect.unit ![o, 0] S256x32.size inb'))
      (View.ld (Val := Elt Ideal) x0 (Rect.unit ![o, 0] S256x2048.size inb)) E
      (View.ld (Val := Elt Ideal) lo (Rect.unit ![o, 0] S256x128.size inb3)) x
      = lossAdd (resM x0 E p b) lo ((Rect.unit (s := S1536x128) ![o, 0] S256x128.size inb4).emb x) := by
  rw [show (Rect.unit (s := S1536x128) ![o, 0] S256x128.size inb4).emb x = ix2 (rowAt o ho (x 0)) (x 1) from
    emb_rows (N := 128) o ho inb4 x]
  unfold k0_pay99 lossAdd
  dsimp only
  rw [shapeCast_self]
  have hq : ∀ (q : ℕ) (hq : q < 4) (h : S256x512.Slices ![0, 128 * q] S256x128), extractStridedSlice S256x128 ![0, 128 * q]
      (mulf (k0_pay98 (F := Ideal) b (View.ld (Val := Elt Ideal) p (Rect.unit ![o, 0] S256x32.size inb'))
        (View.ld (Val := Elt Ideal) x0 (Rect.unit ![o, 0] S256x2048.size inb)) E)
        (k0_pay98 (F := Ideal) b (View.ld (Val := Elt Ideal) p (Rect.unit ![o, 0] S256x32.size inb'))
        (View.ld (Val := Elt Ideal) x0 (Rect.unit ![o, 0] S256x2048.size inb)) E)) h x
        = resM x0 E p b (ix2 (rowAt o ho (x 0)) ⟨128 * q + (x 1).val, by have : (x 1).val < 128 := (x 1).isLt; omega⟩)
          * resM x0 E p b (ix2 (rowAt o ho (x 0)) ⟨128 * q + (x 1).val, by have : (x 1).val < 128 := (x 1).isLt; omega⟩) := by
    intro q hq h
    rw [lanes q hq, ValueIdx.mulf_apply, tile_res x0 E p b o ho inb inb']
  rw [ValueIdx.addf_apply, ValueIdx.addf_apply, ValueIdx.addf_apply, ValueIdx.addf_apply, ValueIdx.addf_apply]
  refine congrArg₂ (· + ·) ?_ ?_
  · conv_lhs => rw [eq_ix2 x]
    exact ld_rows (N := 128) (e := .f32) lo o ho inb3 _ _
  · rw [Fin.sum_univ_four]
    refine congrArg₂ (· + ·) (congrArg₂ (· + ·) (congrArg₂ (· + ·) ?_ ?_) ?_) ?_
    · refine (congrArg₂ (· + ·) (show _ = (0 : EReal) from zero32) (hq 0 (by decide) _)).trans (zero_add _)
    · exact hq 1 (by decide) _
    · exact hq 2 (by decide) _
    · exact hq 3 (by decide) _

/-- A tile's store into residual · bᵀ. -/
theorem tile_g (go : Vec Ideal S1536x32 .f32) (o : ℕ) (ho : o + 256 ≤ 1536)
    (inb : ∀ a, (![o, 0] : Fin 2 → ℕ) a + S256x2048.size a ≤ S1536x2048.size a)
    (inb' inb3 inb4 : ∀ a, (![o, 0] : Fin 2 → ℕ) a + S256x32.size a ≤ S1536x32.size a) (x : S256x32.Idx) :
    k0_pay101 (F := Ideal) b (View.ld (Val := Elt Ideal) p (Rect.unit ![o, 0] S256x32.size inb'))
      (View.ld (Val := Elt Ideal) x0 (Rect.unit ![o, 0] S256x2048.size inb)) E
      (View.ld (Val := Elt Ideal) go (Rect.unit ![o, 0] S256x32.size inb3)) x
      = gAdd (resM x0 E p b) b go ((Rect.unit (s := S1536x32) ![o, 0] S256x32.size inb4).emb x) := by
  rw [show (Rect.unit (s := S1536x32) ![o, 0] S256x32.size inb4).emb x = ix2 (rowAt o ho (x 0)) (x 1) from
    emb_rows (N := 32) o ho inb4 x]
  unfold k0_pay101 gAdd
  dsimp only
  rw [shapeCast_self, ValueIdx.addf_apply, mm_g]
  refine congrArg₂ (· + ·) ?_ (Finset.sum_congr rfl fun l _ => congrArg (· * _) ?_)
  · conv_lhs => rw [eq_ix2 x]
    exact ld_rows (N := 32) (e := .f32) go o ho inb3 _ _
  · exact tile_res x0 E p b o ho inb inb' (ix2 (x 0) l)

/-- A tile's share of pᵀ · residual. -/
def dbTile (p : Mat 1536 32) (r : Mat 1536 512) (o : ℕ) (ho : o + 256 ≤ 1536) (j : S32x512.Idx) : EReal :=
  ∑ i : Fin 256, p (ix2 (rowAt o ho i) (j 0)) * r (ix2 (rowAt o ho i) (j 1))

/-- A tile's addition to pᵀ · residual. -/
theorem tile_db (db : FVec Ideal S32x512 .f32) (o : ℕ) (ho : o + 256 ≤ 1536)
    (inb : ∀ a, (![o, 0] : Fin 2 → ℕ) a + S256x2048.size a ≤ S1536x2048.size a)
    (inb' : ∀ a, (![o, 0] : Fin 2 → ℕ) a + S256x32.size a ≤ S1536x32.size a) (j : S32x512.Idx) :
    k0_pay107 (F := Ideal) b db (View.ld (Val := Elt Ideal) p (Rect.unit ![o, 0] S256x32.size inb'))
      (View.ld (Val := Elt Ideal) x0 (Rect.unit ![o, 0] S256x2048.size inb)) E j
      = db j + dbTile p (resM x0 E p b) o ho j := by
  unfold k0_pay107 dbTile
  dsimp only
  rw [ValueIdx.addf_apply, mm_db]
  refine congrArg (db j + ·) (Finset.sum_congr rfl fun l _ => congrArg₂ (· * ·) ?_ ?_)
  · exact ld_rows (N := 32) (e := .bf16) p o ho inb' _ _
  · exact tile_res x0 E p b o ho inb inb' (ix2 l (j 1))

/-- The six tiles' shares, added in order to zero and multiplied by −2, are −2 · pᵀ · residual. -/
theorem dbTiles (r : Mat 1536 512) (j : S32x512.Idx) :
    Ideal.ofBits .f32 0xC0000000#32 * ((((((Ideal.ofBits .f32 0x00000000#32 + dbTile p r 0 (by decide) j) + dbTile p r 256 (by decide) j)
      + dbTile p r 512 (by decide) j) + dbTile p r 768 (by decide) j) + dbTile p r 1024 (by decide) j) + dbTile p r 1280 (by decide) j)
      = dbM p r j := by
  unfold dbM
  rw [negTwo32, zero32, zero_add, sum_runs 6 256 1536 rfl, Fin.sum_univ_six]
  rfl

/-- The first point's product x · a. -/
theorem pay6_eq (a : Vec Ideal S2048x32 .bf16) : k0_pay6 (F := Ideal) x0 a = projM x0 a := by
  unfold k0_pay6
  dsimp only
  rw [shapeCast_self, shapeCast_self]
  funext y
  exact mm_xa x0 a y

/-- The last point's product −2 · xᵀ · g. -/
theorem pay2_eq (g : Vec Ideal S1536x32 .f32) : k0_pay2 (F := Ideal) x0 g = daM x0 g := by
  unfold k0_pay2
  dsimp only
  rw [shapeCast_self, shapeCast_self]
  funext y
  refine (ValueIdx.mulf_apply _ _ y).trans ?_
  exact congrArg₂ (· * ·) negTwo32 (mm_da x0 _ y)

/-- The last point's sum of the 128 lanes of a row. -/
theorem pay3_apply (lo : Vec Ideal S1536x128 .f32) (x : S1536x1.Idx) :
    k0_pay3 (F := Ideal) lo x = ∑ l : Fin 128, lo (ix2 (x 0) l) := by
  unfold k0_pay3
  dsimp only
  rw [shapeCast_self]
  have hx : (x 1).val < 1 := idx2_lt1 x
  refine (shapeCast_apply _ shapeCasts_S1536_S1536x1 x (ix1 (x 0)) ?_).trans ?_
  · refine (Shape.rowMajor_val_one _).trans ?_
    rw [Shape.rowMajor_val_two]
    show (x 0).val = (x 0).val * 1 + (x 1).val
    omega
  · refine (Ideal.multiReduction_add_single _ _ _ _ _ _).trans (Finset.sum_congr rfl fun l _ => congrArg lo (funext fun a => Fin.ext ?_))
    match a with
    | ⟨0, _⟩ => rfl
    | ⟨1, _⟩ => rfl

end Cert.KernelIdeal.Value

end
-- ==== Proof.Pieces.lean ====
/- The six row tiles of a grid point together: their stores into the lane sums and into residual · bᵀ are blocks of one matrix
   each, and their additions to pᵀ · residual make the whole product. -/
module

public import proofs.«01_k».proof.Proof.Tiles
public import Idealize.ShloMosaic.Lib.Pipeline.ReadBack

@[expose] public section

set_option maxRecDepth 16384

noncomputable section

open Idealize.ShloMosaic Idealize.ShloMosaic.TcCoe Idealize.ShloMosaic.Tactic Idealize.ShloMosaic.ValueIdx
open Idealize.SL Idealize.SL.Sem
open scoped BigOperators

namespace Cert.KernelIdeal.Value

open Cert.KernelIdeal Cert.KernelIdeal.Gen Cert.Spec

variable (x0 : Vec Ideal S1536x2048 .bf16) (E : Vec Ideal S2048x512 .bf16) (p : Vec Ideal S1536x32 .bf16) (b : Vec Ideal S32x512 .bf16)

/-- The six stores into the lane sums. -/
abbrev lossPieces (lo : Vec Ideal S1536x128 .f32) : List (View.Piece (Elt Ideal) S1536x128 .f32) :=
    [⟨Rect.unit ![1280, 0] S256x128.size inb_S1536x128_S256x128_1280_0, k0_pay128 (F := Ideal) b (View.ld (Val := Elt Ideal) p (Rect.unit ![1280, 0] S256x32.size inb_S1536x32_S256x32_1280_0)) (View.ld (Val := Elt Ideal) x0 (Rect.unit ![1280, 0] S256x2048.size inb_S1536x2048_S256x2048_1280_0)) E (View.ld (Val := Elt Ideal) lo (Rect.unit ![1280, 0] S256x128.size inb_S1536x128_S256x128_1280_0))⟩,
      ⟨Rect.unit ![1024, 0] S256x128.size inb_S1536x128_S256x128_1024_0, k0_pay123 (F := Ideal) b (View.ld (Val := Elt Ideal) p (Rect.unit ![1024, 0] S256x32.size inb_S1536x32_S256x32_1024_0)) (View.ld (Val := Elt Ideal) x0 (Rect.unit ![1024, 0] S256x2048.size inb_S1536x2048_S256x2048_1024_0)) E (View.ld (Val := Elt Ideal) lo (Rect.unit ![1024, 0] S256x128.size inb_S1536x128_S256x128_1024_0))⟩,
      ⟨Rect.unit ![768, 0] S256x128.size inb_S1536x128_S256x128_768_0, k0_pay118 (F := Ideal) (k0_pay115 (F := Ideal) b (View.ld (Val := Elt Ideal) p (Rect.unit ![768, 0] S256x32.size inb_S1536x32_S256x32_768_0)) (View.ld (Val := Elt Ideal) x0 (Rect.unit ![768, 0] S256x2048.size inb_S1536x2048_S256x2048_768_0)) E) (k0_pay116 (F := Ideal) (View.ld (Val := Elt Ideal) lo (Rect.unit ![768, 0] S256x128.size inb_S1536x128_S256x128_768_0))) (k0_pay117 (F := Ideal) b (View.ld (Val := Elt Ideal) p (Rect.unit ![768, 0] S256x32.size inb_S1536x32_S256x32_768_0)) (View.ld (Val := Elt Ideal) x0 (Rect.unit ![768, 0] S256x2048.size inb_S1536x2048_S256x2048_768_0)) E)⟩,
      ⟨Rect.unit ![512, 0] S256x128.size inb_S1536x128_S256x128_512_0, k0_pay110 (F := Ideal) (k0_pay109 (F := Ideal) b (View.ld (Val := Elt Ideal) p (Rect.unit ![512, 0] S256x32.size inb_S1536x32_S256x32_512_0)) (View.ld (Val := Elt Ideal) x0 (Rect.unit ![512, 0] S256x2048.size inb_S1536x2048_S256x2048_512_0)) E) (View.ld (Val := Elt Ideal) lo (Rect.unit ![512, 0] S256x128.size inb_S1536x128_S256x128_512_0))⟩,
      ⟨Rect.unit ![256, 0] S256x128.size inb_S1536x128_S256x128_256_0, k0_pay104 (F := Ideal) b (View.ld (Val := Elt Ideal) p (Rect.unit ![256, 0] S256x32.size inb_S1536x32_S256x32_256_0)) (View.ld (Val := Elt Ideal) x0 (Rect.unit ![256, 0] S256x2048.size inb_S1536x2048_S256x2048_256_0)) E (View.ld (Val := Elt Ideal) lo (Rect.unit ![256, 0] S256x128.size inb_S1536x128_S256x128_256_0))⟩,
      ⟨Rect.unit ![0, 0] S256x128.size inb_S1536x128_S256x128_0_0, k0_pay99 (F := Ideal) b (View.ld (Val := Elt Ideal) p (Rect.unit ![0, 0] S256x32.size inb_S1536x32_S256x32_0_0)) (View.ld (Val := Elt Ideal) x0 (Rect.unit ![0, 0] S256x2048.size inb_S1536x2048_S256x2048_0_0)) E (View.ld (Val := Elt Ideal) lo (Rect.unit ![0, 0] S256x128.size inb_S1536x128_S256x128_0_0))⟩]

/-- Each of the six stores into the lane sums is a block of the lane sums after the point. -/
theorem loss_pieces (lo : Vec Ideal S1536x128 .f32) :
    View.PiecesOf (Val := Elt Ideal) (s := S1536x128) (e := .f32) (lossAdd (resM x0 E p b) lo) (lossPieces x0 E p b lo) :=
  ⟨tile_loss x0 E p b lo 1280 (by decide) inb_S1536x2048_S256x2048_1280_0 inb_S1536x32_S256x32_1280_0 inb_S1536x128_S256x128_1280_0 inb_S1536x128_S256x128_1280_0,
    tile_loss x0 E p b lo 1024 (by decide) inb_S1536x2048_S256x2048_1024_0 inb_S1536x32_S256x32_1024_0 inb_S1536x128_S256x128_1024_0 inb_S1536x128_S256x128_1024_0,
    tile_loss x0 E p b lo 768 (by decide) inb_S1536x2048_S256x2048_768_0 inb_S1536x32_S256x32_768_0 inb_S1536x128_S256x128_768_0 inb_S1536x128_S256x128_768_0,
    tile_loss x0 E p b lo 512 (by decide) inb_S1536x2048_S256x2048_512_0 inb_S1536x32_S256x32_512_0 inb_S1536x128_S256x128_512_0 inb_S1536x128_S256x128_512_0,
    tile_loss x0 E p b lo 256 (by decide) inb_S1536x2048_S256x2048_256_0 inb_S1536x32_S256x32_256_0 inb_S1536x128_S256x128_256_0 inb_S1536x128_S256x128_256_0,
    tile_loss x0 E p b lo 0 (by decide) inb_S1536x2048_S256x2048_0_0 inb_S1536x32_S256x32_0_0 inb_S1536x128_S256x128_0_0 inb_S1536x128_S256x128_0_0, trivial⟩

/-- The six stores cover the lane sums. -/
theorem loss_cover (lo : Vec Ideal S1536x128 .f32) (y : S1536x128.Idx) : ∃ q ∈ lossPieces x0 E p b lo, y ∈ q.1.set :=
  View.cover_of_tiledL (s := S1536x128) _ S256x128.size (by sl_kernel_rfl) y

/-- The six stores into residual · bᵀ. -/
abbrev gPieces (go : Vec Ideal S1536x32 .f32) : List (View.Piece (Elt Ideal) S1536x32 .f32) :=
    [⟨Rect.unit ![1280, 0] S256x32.size inb_S1536x32_S256x32_1280_0, k0_pay130 (F := Ideal) b (View.ld (Val := Elt Ideal) p (Rect.unit ![1280, 0] S256x32.size inb_S1536x32_S256x32_1280_0)) (View.ld (Val := Elt Ideal) x0 (Rect.unit ![1280, 0] S256x2048.size inb_S1536x2048_S256x2048_1280_0)) E (View.ld (Val := Elt Ideal) go (Rect.unit ![1280, 0] S256x32.size inb_S1536x32_S256x32_1280_0))⟩,
      ⟨Rect.unit ![1024, 0] S256x32.size inb_S1536x32_S256x32_1024_0, k0_pay125 (F := Ideal) b (k0_pay124 (F := Ideal) b (View.ld (Val := Elt Ideal) p (Rect.unit ![1024, 0] S256x32.size inb_S1536x32_S256x32_1024_0)) (View.ld (Val := Elt Ideal) x0 (Rect.unit ![1024, 0] S256x2048.size inb_S1536x2048_S256x2048_1024_0)) E) (View.ld (Val := Elt Ideal) go (Rect.unit ![1024, 0] S256x32.size inb_S1536x32_S256x32_1024_0))⟩,
      ⟨Rect.unit ![768, 0] S256x32.size inb_S1536x32_S256x32_768_0, k0_pay120 (F := Ideal) b (k0_pay114 (F := Ideal) b (View.ld (Val := Elt Ideal) p (Rect.unit ![768, 0] S256x32.size inb_S1536x32_S256x32_768_0)) (View.ld (Val := Elt Ideal) x0 (Rect.unit ![768, 0] S256x2048.size inb_S1536x2048_S256x2048_768_0)) E) (View.ld (Val := Elt Ideal) go (Rect.unit ![768, 0] S256x32.size inb_S1536x32_S256x32_768_0))⟩,
      ⟨Rect.unit ![512, 0] S256x32.size inb_S1536x32_S256x32_512_0, k0_pay112 (F := Ideal) b (k0_pay108 (F := Ideal) b (View.ld (Val := Elt Ideal) p (Rect.unit ![512, 0] S256x32.size inb_S1536x32_S256x32_512_0)) (View.ld (Val := Elt Ideal) x0 (Rect.unit ![512, 0] S256x2048.size inb_S1536x2048_S256x2048_512_0)) E) (View.ld (Val := Elt Ideal) go (Rect.unit ![512, 0] S256x32.size inb_S1536x32_S256x32_512_0))⟩,
      ⟨Rect.unit ![256, 0] S256x32.size inb_S1536x32_S256x32_256_0, k0_pay106 (F := Ideal) b (View.ld (Val := Elt Ideal) p (Rect.unit ![256, 0] S256x32.size inb_S1536x32_S256x32_256_0)) (View.ld (Val := Elt Ideal) x0 (Rect.unit ![256, 0] S256x2048.size inb_S1536x2048_S256x2048_256_0)) E (View.ld (Val := Elt Ideal) go (Rect.unit ![256, 0] S256x32.size inb_S1536x32_S256x32_256_0))⟩,
      ⟨Rect.unit ![0, 0] S256x32.size inb_S1536x32_S256x32_0_0, k0_pay101 (F := Ideal) b (View.ld (Val := Elt Ideal) p (Rect.unit ![0, 0] S256x32.size inb_S1536x32_S256x32_0_0)) (View.ld (Val := Elt Ideal) x0 (Rect.unit ![0, 0] S256x2048.size inb_S1536x2048_S256x2048_0_0)) E (View.ld (Val := Elt Ideal) go (Rect.unit ![0, 0] S256x32.size inb_S1536x32_S256x32_0_0))⟩]

/-- Each of the six stores into residual · bᵀ is a block of it after the point. -/
theorem g_pieces (go : Vec Ideal S1536x32 .f32) :
    View.PiecesOf (Val := Elt Ideal) (s := S1536x32) (e := .f32) (gAdd (resM x0 E p b) b go) (gPieces x0 E p b go) :=
  ⟨tile_g x0 E p b go 1280 (by decide) inb_S1536x2048_S256x2048_1280_0 inb_S1536x32_S256x32_1280_0 inb_S1536x32_S256x32_1280_0 inb_S1536x32_S256x32_1280_0,
    tile_g x0 E p b go 1024 (by decide) inb_S1536x2048_S256x2048_1024_0 inb_S1536x32_S256x32_1024_0 inb_S1536x32_S256x32_1024_0 inb_S1536x32_S256x32_1024_0,
    tile_g x0 E p b go 768 (by decide) inb_S1536x2048_S256x2048_768_0 inb_S1536x32_S256x32_768_0 inb_S1536x32_S256x32_768_0 inb_S1536x32_S256x32_768_0,
    tile_g x0 E p b go 512 (by decide) inb_S1536x2048_S256x2048_512_0 inb_S1536x32_S256x32_512_0 inb_S1536x32_S256x32_512_0 inb_S1536x32_S256x32_512_0,
    tile_g x0 E p b go 256 (by decide) inb_S1536x2048_S256x2048_256_0 inb_S1536x32_S256x32_256_0 inb_S1536x32_S256x32_256_0 inb_S1536x32_S256x32_256_0,
    tile_g x0 E p b go 0 (by decide) inb_S1536x2048_S256x2048_0_0 inb_S1536x32_S256x32_0_0 inb_S1536x32_S256x32_0_0 inb_S1536x32_S256x32_0_0, trivial⟩

/-- The six stores cover residual · bᵀ. -/
theorem g_cover (go : Vec Ideal S1536x32 .f32) (y : S1536x32.Idx) : ∃ q ∈ gPieces x0 E p b go, y ∈ q.1.set :=
  View.cover_of_tiledL (s := S1536x32) _ S256x32.size (by sl_kernel_rfl) y

/-- The lane sums after the six stores. -/
theorem loss_canon (lo : Vec Ideal S1536x128 .f32) :
    View.canon (Val := Elt Ideal) (lossPieces x0 E p b lo) = lossAdd (resM x0 E p b) lo :=
  funext fun y => View.canon_apply_of_pieces (Val := Elt Ideal) (S := S1536x128) (e := .f32) (lossAdd (resM x0 E p b) lo) _
    (loss_pieces x0 E p b lo).mem y (loss_cover x0 E p b lo y)

/-- Residual · bᵀ after the six stores. -/
theorem g_canon (go : Vec Ideal S1536x32 .f32) :
    View.canon (Val := Elt Ideal) (gPieces x0 E p b go) = gAdd (resM x0 E p b) b go :=
  funext fun y => View.canon_apply_of_pieces (Val := Elt Ideal) (S := S1536x32) (e := .f32) (gAdd (resM x0 E p b) b go) _
    (g_pieces x0 E p b go).mem y (g_cover x0 E p b go y)

/-- The lane sums after the six stores, over any earlier stores. -/
theorem loss_canon_over (lo : Vec Ideal S1536x128 .f32) (L : List (View.Piece (Elt Ideal) S1536x128 .f32)) :
    View.canon (Val := Elt Ideal) (lossPieces x0 E p b lo ++ L) = lossAdd (resM x0 E p b) lo :=
  funext fun y => View.canon_append_of_piecesOf (Val := Elt Ideal) (s := S1536x128) (e := .f32) (lossAdd (resM x0 E p b) lo) L _
    (loss_pieces x0 E p b lo) y (loss_cover x0 E p b lo y)

/-- Residual · bᵀ after the six stores, over any earlier stores. -/
theorem g_canon_over (go : Vec Ideal S1536x32 .f32) (L : List (View.Piece (Elt Ideal) S1536x32 .f32)) :
    View.canon (Val := Elt Ideal) (gPieces x0 E p b go ++ L) = gAdd (resM x0 E p b) b go :=
  funext fun y => View.canon_append_of_piecesOf (Val := Elt Ideal) (s := S1536x32) (e := .f32) (gAdd (resM x0 E p b) b go) L _
    (g_pieces x0 E p b go) y (g_cover x0 E p b go y)

/-- The six tiles' additions to pᵀ · residual, from zero, times −2. -/
abbrev dbChain : FVec Ideal S32x512 .f32 :=
  k0_pay1 (F := Ideal) (k0_pay126 (F := Ideal) (k0_pay121 (F := Ideal) (k0_pay113 (F := Ideal) (k0_pay107 (F := Ideal) b (k0_pay102 (F := Ideal) b (View.ld (Val := Elt Ideal) p (Rect.unit ![0, 0] S256x32.size inb_S1536x32_S256x32_0_0)) (View.ld (Val := Elt Ideal) x0 (Rect.unit ![0, 0] S256x2048.size inb_S1536x2048_S256x2048_0_0)) E) (View.ld (Val := Elt Ideal) p (Rect.unit ![256, 0] S256x32.size inb_S1536x32_S256x32_256_0)) (View.ld (Val := Elt Ideal) x0 (Rect.unit ![256, 0] S256x2048.size inb_S1536x2048_S256x2048_256_0)) E) (View.ld (Val := Elt Ideal) p (Rect.unit ![512, 0] S256x32.size inb_S1536x32_S256x32_512_0)) (k0_pay108 (F := Ideal) b (View.ld (Val := Elt Ideal) p (Rect.unit ![512, 0] S256x32.size inb_S1536x32_S256x32_512_0)) (View.ld (Val := Elt Ideal) x0 (Rect.unit ![512, 0] S256x2048.size inb_S1536x2048_S256x2048_512_0)) E))
    (View.ld (Val := Elt Ideal) p (Rect.unit ![768, 0] S256x32.size inb_S1536x32_S256x32_768_0)) (k0_pay114 (F := Ideal) b (View.ld (Val := Elt Ideal) p (Rect.unit ![768, 0] S256x32.size inb_S1536x32_S256x32_768_0)) (View.ld (Val := Elt Ideal) x0 (Rect.unit ![768, 0] S256x2048.size inb_S1536x2048_S256x2048_768_0)) E)) (View.ld (Val := Elt Ideal) p (Rect.unit ![1024, 0] S256x32.size inb_S1536x32_S256x32_1024_0)) (k0_pay124 (F := Ideal) b (View.ld (Val := Elt Ideal) p (Rect.unit ![1024, 0] S256x32.size inb_S1536x32_S256x32_1024_0)) (View.ld (Val := Elt Ideal) x0 (Rect.unit ![1024, 0] S256x2048.size inb_S1536x2048_S256x2048_1024_0)) E)) (View.ld (Val := Elt Ideal) p (Rect.unit ![1280, 0] S256x32.size inb_S1536x32_S256x32_1280_0)) (k0_pay129 (F := Ideal) b (View.ld (Val := Elt Ideal) p (Rect.unit ![1280, 0] S256x32.size inb_S1536x32_S256x32_1280_0)) (View.ld (Val := Elt Ideal) x0 (Rect.unit ![1280, 0] S256x2048.size inb_S1536x2048_S256x2048_1280_0)) E)

/-- They make −2 · pᵀ · residual. -/
theorem db_chain : dbChain x0 E p b = dbM p (resM x0 E p b) := by
  funext j
  refine Eq.trans ?_ (dbTiles p (resM x0 E p b) j)
  show Ideal.ofBits .f32 0xC0000000#32 * (k0_pay107 (F := Ideal) b (k0_pay107 (F := Ideal) b (k0_pay107 (F := Ideal) b (k0_pay107 (F := Ideal) b (k0_pay107 (F := Ideal) b (k0_pay107 (F := Ideal) b (fun _ => Ideal.ofBits .f32 0x00000000#32) (View.ld (Val := Elt Ideal) p (Rect.unit ![0, 0] S256x32.size inb_S1536x32_S256x32_0_0)) (View.ld (Val := Elt Ideal) x0 (Rect.unit ![0, 0] S256x2048.size inb_S1536x2048_S256x2048_0_0)) E) (View.ld (Val := Elt Ideal) p (Rect.unit ![256, 0] S256x32.size inb_S1536x32_S256x32_256_0)) (View.ld (Val := Elt Ideal) x0 (Rect.unit ![256, 0] S256x2048.size inb_S1536x2048_S256x2048_256_0)) E) (View.ld (Val := Elt Ideal) p (Rect.unit ![512, 0] S256x32.size inb_S1536x32_S256x32_512_0)) (View.ld (Val := Elt Ideal) x0 (Rect.unit ![512, 0] S256x2048.size inb_S1536x2048_S256x2048_512_0)) E) (View.ld (Val := Elt Ideal) p (Rect.unit ![768, 0] S256x32.size inb_S1536x32_S256x32_768_0)) (View.ld (Val := Elt Ideal) x0 (Rect.unit ![768, 0] S256x2048.size inb_S1536x2048_S256x2048_768_0)) E) (View.ld (Val := Elt Ideal) p (Rect.unit ![1024, 0] S256x32.size inb_S1536x32_S256x32_1024_0)) (View.ld (Val := Elt Ideal) x0 (Rect.unit ![1024, 0] S256x2048.size inb_S1536x2048_S256x2048_1024_0)) E) (View.ld (Val := Elt Ideal) p (Rect.unit ![1280, 0] S256x32.size inb_S1536x32_S256x32_1280_0)) (View.ld (Val := Elt Ideal) x0 (Rect.unit ![1280, 0] S256x2048.size inb_S1536x2048_S256x2048_1280_0)) E j) = _
  rw [tile_db x0 E p b _ 1280 (by decide) inb_S1536x2048_S256x2048_1280_0 inb_S1536x32_S256x32_1280_0]
  rw [tile_db x0 E p b _ 1024 (by decide) inb_S1536x2048_S256x2048_1024_0 inb_S1536x32_S256x32_1024_0]
  rw [tile_db x0 E p b _ 768 (by decide) inb_S1536x2048_S256x2048_768_0 inb_S1536x32_S256x32_768_0]
  rw [tile_db x0 E p b _ 512 (by decide) inb_S1536x2048_S256x2048_512_0 inb_S1536x32_S256x32_512_0]
  rw [tile_db x0 E p b _ 256 (by decide) inb_S1536x2048_S256x2048_256_0 inb_S1536x32_S256x32_256_0]
  rw [tile_db x0 E p b _ 0 (by decide) inb_S1536x2048_S256x2048_0_0 inb_S1536x32_S256x32_0_0]

/-- The zero fill of the lane sums. -/
theorem pay5_eq : k0_pay5 (F := Ideal) = fun _ => (0 : EReal) := funext fun _ => zero32

/-- The zero fill of residual · bᵀ. -/
theorem pay4_eq : k0_pay4 (F := Ideal) = fun _ => (0 : EReal) := funext fun _ => zero32

end Cert.KernelIdeal.Value

end
-- ==== Proof.OutsA.lean ====
/- What the first grid point leaves in the result blocks and in the carried product x · a, as functions of the point's input
   blocks: it starts the two sums at zero and computes the product. -/
module

public import proofs.«01_k».proof.Proof.Pieces

@[expose] public section

set_option maxRecDepth 16384

noncomputable section

open Idealize.ShloMosaic Idealize.ShloMosaic.TcCoe Idealize.ShloMosaic.Tactic Idealize.ShloMosaic.ValueIdx
open Idealize.SL Idealize.SL.Sem
open scoped BigOperators

namespace Cert.KernelIdeal.Value

open Cert.KernelIdeal Cert.KernelIdeal.Gen Cert.Spec

/-- The store of the product x · a, read back by rows. -/
theorem readCov_pb {κ : Kind} {sp : Space} (v : View sig κ sp S1536x32 .bf16) (c : Dev nD) (arg1 : Memref sig .tc .vmem S1536x2048 .bf16) (harg1 : arg1.IsWhole) (arg6 : Memref sig .tc .vmem S2048x32 .bf16) (harg6 : arg6.IsWhole) (x0 : Vec Ideal S1536x2048 .bf16) (x5 : Vec Ideal S2048x32 .bf16) (r : Rect S1536x32) :
    v.readCov (kernelRun0_A.sl.HS0_1 (F := Ideal) c arg1 harg1 arg6 harg6 x0 x5) r.toLoadRect = View.ld (Val := Elt Ideal) (e' := .bf16) (projM x0 x5) r := by
  unfold kernelRun0_A.sl.HS0_1
  simp only [View.readAt_eq_ld, harg1.read_unread, harg6.read_unread, View.ld_unit_zero (S := S1536x2048) hz, View.ld_unit_zero (S := S2048x32) hz, pay6_eq]
  exact View.readCov_fill (Val := Elt Ideal) v inb_S1536x32_S1536x32_0_0 _ [] r (fun a => congrFun hz a)

/-- Rows 0 … of the product x · a. -/
theorem A_v1029 (c : Dev nD) (arg1 : Memref sig .tc .vmem S1536x2048 .bf16) (harg1 : arg1.IsWhole) (arg6 : Memref sig .tc .vmem S2048x32 .bf16) (harg6 : arg6.IsWhole) (arg12 : Memref sig .tc .vmem S1536x32 .bf16) (x0 : Vec Ideal S1536x2048 .bf16) (x5 : Vec Ideal S2048x32 .bf16) :
    kernelRun0_A.sl.v1029 (F := Ideal) c arg1 harg1 arg6 harg6 arg12 x0 x5 = View.ld (Val := Elt Ideal) (e' := .bf16) (projM x0 x5) (Rect.unit (s := S1536x32) ![0, 0] S256x32.size inb_S1536x32_S256x32_0_0) :=
  readCov_pb _ c arg1 harg1 arg6 harg6 x0 x5 _

/-- Rows 256 … of the product x · a. -/
theorem A_v1058 (c : Dev nD) (arg1 : Memref sig .tc .vmem S1536x2048 .bf16) (harg1 : arg1.IsWhole) (arg6 : Memref sig .tc .vmem S2048x32 .bf16) (harg6 : arg6.IsWhole) (arg12 : Memref sig .tc .vmem S1536x32 .bf16) (x0 : Vec Ideal S1536x2048 .bf16) (x5 : Vec Ideal S2048x32 .bf16) :
    kernelRun0_A.sl.v1058 (F := Ideal) c arg1 harg1 arg6 harg6 arg12 x0 x5 = View.ld (Val := Elt Ideal) (e' := .bf16) (projM x0 x5) (Rect.unit (s := S1536x32) ![256, 0] S256x32.size inb_S1536x32_S256x32_256_0) :=
  readCov_pb _ c arg1 harg1 arg6 harg6 x0 x5 _

/-- Rows 512 … of the product x · a. -/
theorem A_v1087 (c : Dev nD) (arg1 : Memref sig .tc .vmem S1536x2048 .bf16) (harg1 : arg1.IsWhole) (arg6 : Memref sig .tc .vmem S2048x32 .bf16) (harg6 : arg6.IsWhole) (arg12 : Memref sig .tc .vmem S1536x32 .bf16) (x0 : Vec Ideal S1536x2048 .bf16) (x5 : Vec Ideal S2048x32 .bf16) :
    kernelRun0_A.sl.v1087 (F := Ideal) c arg1 harg1 arg6 harg6 arg12 x0 x5 = View.ld (Val := Elt Ideal) (e' := .bf16) (projM x0 x5) (Rect.unit (s := S1536x32) ![512, 0] S256x32.size inb_S1536x32_S256x32_512_0) :=
  readCov_pb _ c arg1 harg1 arg6 harg6 x0 x5 _

/-- Rows 768 … of the product x · a. -/
theorem A_v1116 (c : Dev nD) (arg1 : Memref sig .tc .vmem S1536x2048 .bf16) (harg1 : arg1.IsWhole) (arg6 : Memref sig .tc .vmem S2048x32 .bf16) (harg6 : arg6.IsWhole) (arg12 : Memref sig .tc .vmem S1536x32 .bf16) (x0 : Vec Ideal S1536x2048 .bf16) (x5 : Vec Ideal S2048x32 .bf16) :
    kernelRun0_A.sl.v1116 (F := Ideal) c arg1 harg1 arg6 harg6 arg12 x0 x5 = View.ld (Val := Elt Ideal) (e' := .bf16) (projM x0 x5) (Rect.unit (s := S1536x32) ![768, 0] S256x32.size inb_S1536x32_S256x32_768_0) :=
  readCov_pb _ c arg1 harg1 arg6 harg6 x0 x5 _

/-- Rows 1024 … of the product x · a. -/
theorem A_v1145 (c : Dev nD) (arg1 : Memref sig .tc .vmem S1536x2048 .bf16) (harg1 : arg1.IsWhole) (arg6 : Memref sig .tc .vmem S2048x32 .bf16) (harg6 : arg6.IsWhole) (arg12 : Memref sig .tc .vmem S1536x32 .bf16) (x0 : Vec Ideal S1536x2048 .bf16) (x5 : Vec Ideal S2048x32 .bf16) :
    kernelRun0_A.sl.v1145 (F := Ideal) c arg1 harg1 arg6 harg6 arg12 x0 x5 = View.ld (Val := Elt Ideal) (e' := .bf16) (projM x0 x5) (Rect.unit (s := S1536x32) ![1024, 0] S256x32.size inb_S1536x32_S256x32_1024_0) :=
  readCov_pb _ c arg1 harg1 arg6 harg6 x0 x5 _

/-- Rows 1280 … of the product x · a. -/
theorem A_v1174 (c : Dev nD) (arg1 : Memref sig .tc .vmem S1536x2048 .bf16) (harg1 : arg1.IsWhole) (arg6 : Memref sig .tc .vmem S2048x32 .bf16) (harg6 : arg6.IsWhole) (arg12 : Memref sig .tc .vmem S1536x32 .bf16) (x0 : Vec Ideal S1536x2048 .bf16) (x5 : Vec Ideal S2048x32 .bf16) :
    kernelRun0_A.sl.v1174 (F := Ideal) c arg1 harg1 arg6 harg6 arg12 x0 x5 = View.ld (Val := Elt Ideal) (e' := .bf16) (projM x0 x5) (Rect.unit (s := S1536x32) ![1280, 0] S256x32.size inb_S1536x32_S256x32_1280_0) :=
  readCov_pb _ c arg1 harg1 arg6 harg6 x0 x5 _

/-- Rows 0 … of the lane sums, not yet stored to at this point, hold the zero fill. -/
theorem A_v1037 (c : Dev nD) (arg8 : Memref sig .tc .vmem S1536x128 .f32) :
    kernelRun0_A.sl.v1037 (F := Ideal) c arg8 = View.ld (Val := Elt Ideal) (e' := .f32) (k0_pay5 (F := Ideal)) (Rect.unit (s := S1536x128) ![0, 0] S256x128.size inb_S1536x128_S256x128_0_0) := by
  unfold kernelRun0_A.sl.v1037
  unfold kernelRun0_A.sl.H7_1
  exact View.readCov_fill (Val := Elt Ideal) _ inb_S1536x128_S1536x128_0_0 _ [] _ (fun a => congrFun hz a)

/-- Rows 256 … of the lane sums, not yet stored to at this point, hold the zero fill. -/
theorem A_v1066 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1066 (F := Ideal) c arg1 harg1 arg2 harg2 arg3 harg3 arg4 harg4 arg5 harg5 arg6 harg6 arg7 harg7 arg8 arg12 arg13 x0 x1 x2 x3 x4 x5 x6 = View.ld (Val := Elt Ideal) (e' := .f32) (k0_pay5 (F := Ideal)) (Rect.unit (s := S1536x128) ![256, 0] S256x128.size inb_S1536x128_S256x128_256_0) := by
  unfold kernelRun0_A.sl.v1066
  unfold kernelRun0_A.sl.H7_2
  rw [View.readCov_skip (Val := Elt Ideal) (h := by decide)]
  unfold kernelRun0_A.sl.H7_1
  exact View.readCov_fill (Val := Elt Ideal) _ inb_S1536x128_S1536x128_0_0 _ [] _ (fun a => congrFun hz a)

/-- Rows 512 … of the lane sums, not yet stored to at this point, hold the zero fill. -/
theorem A_v1095 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1095 (F := Ideal) c arg1 harg1 arg2 harg2 arg3 harg3 arg4 harg4 arg5 harg5 arg6 harg6 arg7 harg7 arg8 arg12 arg13 x0 x1 x2 x3 x4 x5 x6 = View.ld (Val := Elt Ideal) (e' := .f32) (k0_pay5 (F := Ideal)) (Rect.unit (s := S1536x128) ![512, 0] S256x128.size inb_S1536x128_S256x128_512_0) := by
  unfold kernelRun0_A.sl.v1095
  unfold kernelRun0_A.sl.H7_3
  rw [View.readCov_skip (Val := Elt Ideal) (h := by decide)]
  unfold kernelRun0_A.sl.H7_2
  rw [View.readCov_skip (Val := Elt Ideal) (h := by decide)]
  unfold kernelRun0_A.sl.H7_1
  exact View.readCov_fill (Val := Elt Ideal) _ inb_S1536x128_S1536x128_0_0 _ [] _ (fun a => congrFun hz a)

/-- Rows 768 … of the lane sums, not yet stored to at this point, hold the zero fill. -/
theorem A_v1124 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1124 (F := Ideal) c arg1 harg1 arg2 harg2 arg3 harg3 arg4 harg4 arg5 harg5 arg6 harg6 arg7 harg7 arg8 arg12 arg13 x0 x1 x2 x3 x4 x5 x6 = View.ld (Val := Elt Ideal) (e' := .f32) (k0_pay5 (F := Ideal)) (Rect.unit (s := S1536x128) ![768, 0] S256x128.size inb_S1536x128_S256x128_768_0) := by
  unfold kernelRun0_A.sl.v1124
  unfold kernelRun0_A.sl.H7_4
  rw [View.readCov_skip (Val := Elt Ideal) (h := by decide)]
  unfold kernelRun0_A.sl.H7_3
  rw [View.readCov_skip (Val := Elt Ideal) (h := by decide)]
  unfold kernelRun0_A.sl.H7_2
  rw [View.readCov_skip (Val := Elt Ideal) (h := by decide)]
  unfold kernelRun0_A.sl.H7_1
  exact View.readCov_fill (Val := Elt Ideal) _ inb_S1536x128_S1536x128_0_0 _ [] _ (fun a => congrFun hz a)

/-- Rows 1024 … of the lane sums, not yet stored to at this point, hold the zero fill. -/
theorem A_v1153 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1153 (F := Ideal) c arg1 harg1 arg2 harg2 arg3 harg3 arg4 harg4 arg5 harg5 arg6 harg6 arg7 harg7 arg8 arg12 arg13 x0 x1 x2 x3 x4 x5 x6 = View.ld (Val := Elt Ideal) (e' := .f32) (k0_pay5 (F := Ideal)) (Rect.unit (s := S1536x128) ![1024, 0] S256x128.size inb_S1536x128_S256x128_1024_0) := by
  unfold kernelRun0_A.sl.v1153
  unfold kernelRun0_A.sl.H7_5
  rw [View.readCov_skip (Val := Elt Ideal) (h := by decide)]
  unfold kernelRun0_A.sl.H7_4
  rw [View.readCov_skip (Val := Elt Ideal) (h := by decide)]
  unfold kernelRun0_A.sl.H7_3
  rw [View.readCov_skip (Val := Elt Ideal) (h := by decide)]
  unfold kernelRun0_A.sl.H7_2
  rw [View.readCov_skip (Val := Elt Ideal) (h := by decide)]
  unfold kernelRun0_A.sl.H7_1
  exact View.readCov_fill (Val := Elt Ideal) _ inb_S1536x128_S1536x128_0_0 _ [] _ (fun a => congrFun hz a)

/-- Rows 1280 … of the lane sums, not yet stored to at this point, hold the zero fill. -/
theorem A_v1182 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1182 (F := Ideal) c arg1 harg1 arg2 harg2 arg3 harg3 arg4 harg4 arg5 harg5 arg6 harg6 arg7 harg7 arg8 arg12 arg13 x0 x1 x2 x3 x4 x5 x6 = View.ld (Val := Elt Ideal) (e' := .f32) (k0_pay5 (F := Ideal)) (Rect.unit (s := S1536x128) ![1280, 0] S256x128.size inb_S1536x128_S256x128_1280_0) := by
  unfold kernelRun0_A.sl.v1182
  unfold kernelRun0_A.sl.H7_6
  rw [View.readCov_skip (Val := Elt Ideal) (h := by decide)]
  unfold kernelRun0_A.sl.H7_5
  rw [View.readCov_skip (Val := Elt Ideal) (h := by decide)]
  unfold kernelRun0_A.sl.H7_4
  rw [View.readCov_skip (Val := Elt Ideal) (h := by decide)]
  unfold kernelRun0_A.sl.H7_3
  rw [View.readCov_skip (Val := Elt Ideal) (h := by decide)]
  unfold kernelRun0_A.sl.H7_2
  rw [View.readCov_skip (Val := Elt Ideal) (h := by decide)]
  unfold kernelRun0_A.sl.H7_1
  exact View.readCov_fill (Val := Elt Ideal) _ inb_S1536x128_S1536x128_0_0 _ [] _ (fun a => congrFun hz a)

/-- Rows 0 … of residual · bᵀ, not yet stored to at this point, hold the zero fill. -/
theorem A_v1051 (c : Dev nD) (arg9 : Memref sig .tc .vmem S1536x32 .f32) :
    kernelRun0_A.sl.v1051 (F := Ideal) c arg9 = View.ld (Val := Elt Ideal) (e' := .f32) (k0_pay4 (F := Ideal)) (Rect.unit (s := S1536x32) ![0, 0] S256x32.size inb_S1536x32_S256x32_0_0) := by
  unfold kernelRun0_A.sl.v1051
  unfold kernelRun0_A.sl.H8_1
  exact View.readCov_fill (Val := Elt Ideal) _ inb_S1536x32_S1536x32_0_0 _ [] _ (fun a => congrFun hz a)

/-- Rows 256 … of residual · bᵀ, not yet stored to at this point, hold the zero fill. -/
theorem A_v1080 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg9 : Memref sig .tc .vmem S1536x32 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1080 (F := Ideal) c arg1 harg1 arg2 harg2 arg3 harg3 arg4 harg4 arg5 harg5 arg6 harg6 arg7 harg7 arg9 arg12 arg13 x0 x1 x2 x3 x4 x5 x6 = View.ld (Val := Elt Ideal) (e' := .f32) (k0_pay4 (F := Ideal)) (Rect.unit (s := S1536x32) ![256, 0] S256x32.size inb_S1536x32_S256x32_256_0) := by
  unfold kernelRun0_A.sl.v1080
  unfold kernelRun0_A.sl.H8_2
  rw [View.readCov_skip (Val := Elt Ideal) (h := by decide)]
  unfold kernelRun0_A.sl.H8_1
  exact View.readCov_fill (Val := Elt Ideal) _ inb_S1536x32_S1536x32_0_0 _ [] _ (fun a => congrFun hz a)

/-- Rows 512 … of residual · bᵀ, not yet stored to at this point, hold the zero fill. -/
theorem A_v1109 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg9 : Memref sig .tc .vmem S1536x32 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1109 (F := Ideal) c arg1 harg1 arg2 harg2 arg3 harg3 arg4 harg4 arg5 harg5 arg6 harg6 arg7 harg7 arg9 arg12 arg13 x0 x1 x2 x3 x4 x5 x6 = View.ld (Val := Elt Ideal) (e' := .f32) (k0_pay4 (F := Ideal)) (Rect.unit (s := S1536x32) ![512, 0] S256x32.size inb_S1536x32_S256x32_512_0) := by
  unfold kernelRun0_A.sl.v1109
  unfold kernelRun0_A.sl.H8_3
  rw [View.readCov_skip (Val := Elt Ideal) (h := by decide)]
  unfold kernelRun0_A.sl.H8_2
  rw [View.readCov_skip (Val := Elt Ideal) (h := by decide)]
  unfold kernelRun0_A.sl.H8_1
  exact View.readCov_fill (Val := Elt Ideal) _ inb_S1536x32_S1536x32_0_0 _ [] _ (fun a => congrFun hz a)

/-- Rows 768 … of residual · bᵀ, not yet stored to at this point, hold the zero fill. -/
theorem A_v1138 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg9 : Memref sig .tc .vmem S1536x32 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1138 (F := Ideal) c arg1 harg1 arg2 harg2 arg3 harg3 arg4 harg4 arg5 harg5 arg6 harg6 arg7 harg7 arg9 arg12 arg13 x0 x1 x2 x3 x4 x5 x6 = View.ld (Val := Elt Ideal) (e' := .f32) (k0_pay4 (F := Ideal)) (Rect.unit (s := S1536x32) ![768, 0] S256x32.size inb_S1536x32_S256x32_768_0) := by
  unfold kernelRun0_A.sl.v1138
  unfold kernelRun0_A.sl.H8_4
  rw [View.readCov_skip (Val := Elt Ideal) (h := by decide)]
  unfold kernelRun0_A.sl.H8_3
  rw [View.readCov_skip (Val := Elt Ideal) (h := by decide)]
  unfold kernelRun0_A.sl.H8_2
  rw [View.readCov_skip (Val := Elt Ideal) (h := by decide)]
  unfold kernelRun0_A.sl.H8_1
  exact View.readCov_fill (Val := Elt Ideal) _ inb_S1536x32_S1536x32_0_0 _ [] _ (fun a => congrFun hz a)

/-- Rows 1024 … of residual · bᵀ, not yet stored to at this point, hold the zero fill. -/
theorem A_v1167 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg9 : Memref sig .tc .vmem S1536x32 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1167 (F := Ideal) c arg1 harg1 arg2 harg2 arg3 harg3 arg4 harg4 arg5 harg5 arg6 harg6 arg7 harg7 arg9 arg12 arg13 x0 x1 x2 x3 x4 x5 x6 = View.ld (Val := Elt Ideal) (e' := .f32) (k0_pay4 (F := Ideal)) (Rect.unit (s := S1536x32) ![1024, 0] S256x32.size inb_S1536x32_S256x32_1024_0) := by
  unfold kernelRun0_A.sl.v1167
  unfold kernelRun0_A.sl.H8_5
  rw [View.readCov_skip (Val := Elt Ideal) (h := by decide)]
  unfold kernelRun0_A.sl.H8_4
  rw [View.readCov_skip (Val := Elt Ideal) (h := by decide)]
  unfold kernelRun0_A.sl.H8_3
  rw [View.readCov_skip (Val := Elt Ideal) (h := by decide)]
  unfold kernelRun0_A.sl.H8_2
  rw [View.readCov_skip (Val := Elt Ideal) (h := by decide)]
  unfold kernelRun0_A.sl.H8_1
  exact View.readCov_fill (Val := Elt Ideal) _ inb_S1536x32_S1536x32_0_0 _ [] _ (fun a => congrFun hz a)

/-- Rows 1280 … of residual · bᵀ, not yet stored to at this point, hold the zero fill. -/
theorem A_v1196 (c : Dev nD) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole) (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg9 : Memref sig .tc .vmem S1536x32 .f32) (arg12 : Memref sig .tc .vmem S1536x32 .bf16) (arg13 : Memref sig .tc .vmem S2048x512 .bf16) (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    kernelRun0_A.sl.v1196 (F := Ideal) c arg1 harg1 arg2 harg2 arg3 harg3 arg4 harg4 arg5 harg5 arg6 harg6 arg7 harg7 arg9 arg12 arg13 x0 x1 x2 x3 x4 x5 x6 = View.ld (Val := Elt Ideal) (e' := .f32) (k0_pay4 (F := Ideal)) (Rect.unit (s := S1536x32) ![1280, 0] S256x32.size inb_S1536x32_S256x32_1280_0) := by
  unfold kernelRun0_A.sl.v1196
  unfold kernelRun0_A.sl.H8_6
  rw [View.readCov_skip (Val := Elt Ideal) (h := by decide)]
  unfold kernelRun0_A.sl.H8_5
  rw [View.readCov_skip (Val := Elt Ideal) (h := by decide)]
  unfold kernelRun0_A.sl.H8_4
  rw [View.readCov_skip (Val := Elt Ideal) (h := by decide)]
  unfold kernelRun0_A.sl.H8_3
  rw [View.readCov_skip (Val := Elt Ideal) (h := by decide)]
  unfold kernelRun0_A.sl.H8_2
  rw [View.readCov_skip (Val := Elt Ideal) (h := by decide)]
  unfold kernelRun0_A.sl.H8_1
  exact View.readCov_fill (Val := Elt Ideal) _ inb_S1536x32_S1536x32_0_0 _ [] _ (fun a => congrFun hz a)

/-- The lane sums of the squared residual after the point. -/
theorem out_A_7 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : cond0_0 i) (hc1 : ¬cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = lossAdd (resM x0 (errM x1 x2 x3 x4) (projM x0 x5) x6) (fun _ => 0) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  unfold kernelRun0_A.sl.H7_6 kernelRun0_A.sl.H7_5 kernelRun0_A.sl.H7_4 kernelRun0_A.sl.H7_3 kernelRun0_A.sl.H7_2 kernelRun0_A.sl.H7_1 kernelRun0_A.sl.r_42 kernelRun0_A.sl.r_41 kernelRun0_A.sl.r_40 kernelRun0_A.sl.r_37 kernelRun0_A.sl.r_34 kernelRun0_A.sl.r_32
  simp only [scratch_A, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz, A_v1029, A_v1058, A_v1087, A_v1116, A_v1145, A_v1174, A_v1037, A_v1066, A_v1095, A_v1124, A_v1153, A_v1182, A_v1051, A_v1080, A_v1109, A_v1138, A_v1167, A_v1196]
  refine (loss_canon_over x0 (errM x1 x2 x3 x4) (projM x0 x5) x6 (k0_pay5 (F := Ideal)) _).trans ?_
  rw [pay5_eq]

/-- Residual · bᵀ after the point. -/
theorem out_A_8 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : cond0_0 i) (hc1 : ¬cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = gAdd (resM x0 (errM x1 x2 x3 x4) (projM x0 x5) x6) x6 (fun _ => 0) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  unfold kernelRun0_A.sl.H8_6 kernelRun0_A.sl.H8_5 kernelRun0_A.sl.H8_4 kernelRun0_A.sl.H8_3 kernelRun0_A.sl.H8_2 kernelRun0_A.sl.H8_1 kernelRun0_A.sl.r_47 kernelRun0_A.sl.r_44 kernelRun0_A.sl.r_39 kernelRun0_A.sl.r_36 kernelRun0_A.sl.r_34 kernelRun0_A.sl.r_32
  simp only [scratch_A, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz, A_v1029, A_v1058, A_v1087, A_v1116, A_v1145, A_v1174, A_v1037, A_v1066, A_v1095, A_v1124, A_v1153, A_v1182, A_v1051, A_v1080, A_v1109, A_v1138, A_v1167, A_v1196]
  refine (g_canon_over x0 (errM x1 x2 x3 x4) (projM x0 x5) x6 (k0_pay4 (F := Ideal)) _).trans ?_
  rw [pay4_eq]

/-- The point's 512 columns of −2 · pᵀ · residual. -/
theorem out_A_10 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : cond0_0 i) (hc1 : ¬cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = dbM (projM x0 x5) (resM x0 (errM x1 x2 x3 x4) (projM x0 x5) x6) := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  rw [View.canon_unit_zero (S := S32x512) hz]
  unfold kernelRun0_A.sl.r_45 kernelRun0_A.sl.r_43 kernelRun0_A.sl.r_38 kernelRun0_A.sl.r_35 kernelRun0_A.sl.r_33 kernelRun0_A.sl.r_34 kernelRun0_A.sl.r_36 kernelRun0_A.sl.r_39 kernelRun0_A.sl.r_44 kernelRun0_A.sl.r_46 kernelRun0_A.sl.r_32
  simp only [scratch_A, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz, A_v1029, A_v1058, A_v1087, A_v1116, A_v1145, A_v1174, A_v1037, A_v1066, A_v1095, A_v1124, A_v1153, A_v1182, A_v1051, A_v1080, A_v1109, A_v1138, A_v1167, A_v1196]
  exact db_chain x0 (errM x1 x2 x3 x4) (projM x0 x5) x6

/-- The product x · a, carried to the later points. -/
theorem sout_A (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : cond0_0 i) (hc1 : ¬cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = projM x0 x5 := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  unfold kernelRun0_A.sl.HS0_1
  rw [View.canon_unit_zero (S := S1536x32) hz]
  simp only [View.readAt_eq_ld, harg1.read_unread, harg6.read_unread, View.ld_unit_zero (S := S1536x2048) hz, View.ld_unit_zero (S := S2048x32) hz]
  exact pay6_eq x0 x5

end Cert.KernelIdeal.Value

end
-- ==== Proof.OutsC.lean ====
/- What the last grid point leaves in the result blocks, as functions of the point's input blocks and of what the
   point before left. -/
module

public import proofs.«01_k».proof.Proof.Pieces

@[expose] public section

set_option maxRecDepth 16384

noncomputable section

open Idealize.ShloMosaic Idealize.ShloMosaic.TcCoe Idealize.ShloMosaic.Tactic Idealize.ShloMosaic.ValueIdx
open Idealize.SL Idealize.SL.Sem
open scoped BigOperators

namespace Cert.KernelIdeal.Value

open Cert.KernelIdeal Cert.KernelIdeal.Gen Cert.Spec

/-- Reading a whole buffer back after stores that leave one matrix reads that matrix. -/
theorem readCov_whole {M N : ℕ} {κ : Kind} {sp : Space} (v : View sig κ sp ⟨2, ![M, N]⟩ .f32) (G : Vec Ideal ⟨2, ![M, N]⟩ .f32)
    (L : List (View.Piece (Elt Ideal) ⟨2, ![M, N]⟩ .f32)) (h : View.canon (Val := Elt Ideal) L = G) (hc : ∀ y, ∃ q ∈ L, y ∈ q.1.set)
    (inb : ∀ a, (![0, 0] : Fin 2 → ℕ) a + (⟨2, ![M, N]⟩ : Shape).size a ≤ (⟨2, ![M, N]⟩ : Shape).size a) :
    v.readCov L (Rect.unit ![0, 0] (⟨2, ![M, N]⟩ : Shape).size inb).toLoadRect = G := by
  rw [View.readCov_eq_canon_ld _ _ _ hc, View.ld_unit_zero (S := ⟨2, ![M, N]⟩) hz, h]

/-- The stores with the last one, of the row sums into column 0, leave the lane sums with column 0 replaced. -/
theorem lossEnd_canon (L : List (View.Piece (Elt Ideal) S1536x128 .f32)) (G : Vec Ideal S1536x128 .f32) (h : View.canon (Val := Elt Ideal) L = G)
    (inb : ∀ a, (![0, 0] : Fin 2 → ℕ) a + S1536x1.size a ≤ S1536x128.size a) :
    View.canon (Val := Elt Ideal) (s := S1536x128) (e := .f32) (⟨Rect.unit (s := S1536x128) ![0, 0] S1536x1.size inb, k0_pay3 (F := Ideal) G⟩ :: L) = lossEnd G := by
  funext y
  by_cases hy : (y 1).val = 0
  · have hr : ∃ r : Fin 1536, r.val = (y 0).val := ⟨⟨(y 0).val, idx2_lt0 y⟩, rfl⟩
    obtain ⟨r, hr⟩ := hr
    have he : (Rect.unit (s := S1536x128) ![0, 0] S1536x1.size inb).emb (ix2 r (0 : Fin 1)) = y := by
      funext a; apply Fin.ext
      match a with
      | ⟨0, _⟩ => show 0 + 1 * r.val = (y 0).val; omega
      | ⟨1, _⟩ => show 0 + 1 * 0 = (y 1).val; omega
    have e1 := View.canon_cons_emb (Val := Elt Ideal) (e := .f32) (Rect.unit (s := S1536x128) ![0, 0] S1536x1.size inb)
      (k0_pay3 (F := Ideal) G) L (ix2 r (0 : Fin 1))
    have e2 := pay3_apply G (ix2 r (0 : Fin 1))
    rw [he] at e1
    refine e1.trans (e2.trans ?_)
    unfold lossEnd
    rw [if_pos hy]
    refine Finset.sum_congr rfl fun l _ => congrArg G ?_
    have hry : r = y 0 := Fin.ext hr
    subst hry
    rfl
  · refine (View.canon_cons_of_not_mem _ _ ?_).trans ?_
    · intro hm
      obtain ⟨x, hx⟩ := (Rect.unit (s := S1536x128) ![0, 0] S1536x1.size inb).exists_idx_of_mem hm
      apply hy
      rw [← hx]
      have h1 : (x 1).val < 1 := (x 1).isLt
      show 0 + 1 * (x 1).val = 0
      omega
    · rw [h]
      unfold lossEnd
      rw [if_neg hy]

/-- The lane sums of the squared residual after the point, column 0 replaced by the sums of the rows. -/
theorem out_C_7 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : ¬cond0_0 i) (hc1 : cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) (xo7 : Vec Ideal S1536x128 .f32) (xo8 : Vec Ideal S1536x32 .f32) (xs0 : Vec Ideal S1536x32 .bf16) :
    out0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0 = lossEnd (lossAdd (resM x0 (errM x1 x2 x3 x4) xs0 x6) xo7) := by
  unfold out0_C_7
  rw [View.read_writes_eq_canon _ _ _ (cover0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0)]
  unfold kernelRun0_C
  dsimp only
  unfold kernelRun0_C.sl.v1218
  unfold kernelRun0_C.sl.H7_6 kernelRun0_C.sl.r_45 kernelRun0_C.sl.r_44 kernelRun0_C.sl.r_43 kernelRun0_C.sl.r_39 kernelRun0_C.sl.r_34 kernelRun0_C.sl.r_35 kernelRun0_C.sl.r_32 kernelRun0_C.sl.v1066 kernelRun0_C.sl.v1095 kernelRun0_C.sl.v1124 kernelRun0_C.sl.v1153 kernelRun0_C.sl.v1182
  simp only [scratch_C, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz]
  rw [readCov_whole (M := 1536) (N := 128) _ _ _ (loss_canon x0 (errM x1 x2 x3 x4) xs0 x6 xo7) (loss_cover x0 (errM x1 x2 x3 x4) xs0 x6 xo7)]
  exact lossEnd_canon _ _ (loss_canon x0 (errM x1 x2 x3 x4) xs0 x6 xo7) _

/-- Residual · bᵀ after the point. -/
theorem out_C_8 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : ¬cond0_0 i) (hc1 : cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) (xo7 : Vec Ideal S1536x128 .f32) (xo8 : Vec Ideal S1536x32 .f32) (xs0 : Vec Ideal S1536x32 .bf16) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0 = gAdd (resM x0 (errM x1 x2 x3 x4) xs0 x6) x6 xo8 := by
  unfold out0_C_8
  rw [View.read_writes_eq_canon _ _ _ (cover0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0)]
  unfold kernelRun0_C
  dsimp only
  unfold kernelRun0_C.sl.H8_6 kernelRun0_C.sl.r_52 kernelRun0_C.sl.r_48 kernelRun0_C.sl.r_42 kernelRun0_C.sl.r_38 kernelRun0_C.sl.r_32 kernelRun0_C.sl.r_34 kernelRun0_C.sl.r_35 kernelRun0_C.sl.v1196 kernelRun0_C.sl.v1167 kernelRun0_C.sl.v1138 kernelRun0_C.sl.v1109 kernelRun0_C.sl.v1080
  simp only [scratch_C, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz]
  exact g_canon x0 (errM x1 x2 x3 x4) xs0 x6 xo8

/-- −2 · xᵀ · g, with g as this point leaves it. -/
theorem out_C_9 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : ¬cond0_0 i) (hc1 : cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) (xo7 : Vec Ideal S1536x128 .f32) (xo8 : Vec Ideal S1536x32 .f32) (xs0 : Vec Ideal S1536x32 .bf16) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0 = daM x0 (gAdd (resM x0 (errM x1 x2 x3 x4) xs0 x6) x6 xo8) := by
  unfold out0_C_9
  rw [View.read_writes_eq_canon _ _ _ (cover0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0)]
  unfold kernelRun0_C
  dsimp only
  rw [View.canon_unit_zero (S := S2048x32) hz]
  unfold kernelRun0_C.sl.v1211
  unfold kernelRun0_C.sl.H8_6 kernelRun0_C.sl.r_52 kernelRun0_C.sl.r_48 kernelRun0_C.sl.r_42 kernelRun0_C.sl.r_38 kernelRun0_C.sl.r_32 kernelRun0_C.sl.r_34 kernelRun0_C.sl.r_35 kernelRun0_C.sl.v1196 kernelRun0_C.sl.v1167 kernelRun0_C.sl.v1138 kernelRun0_C.sl.v1109 kernelRun0_C.sl.v1080
  simp only [scratch_C, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz]
  rw [readCov_whole (M := 1536) (N := 32) _ _ _ (g_canon x0 (errM x1 x2 x3 x4) xs0 x6 xo8) (g_cover x0 (errM x1 x2 x3 x4) xs0 x6 xo8)]
  exact pay2_eq x0 _

/-- The point's 512 columns of −2 · pᵀ · residual. -/
theorem out_C_10 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : ¬cond0_0 i) (hc1 : cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) (xo7 : Vec Ideal S1536x128 .f32) (xo8 : Vec Ideal S1536x32 .f32) (xs0 : Vec Ideal S1536x32 .bf16) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0 = dbM xs0 (resM x0 (errM x1 x2 x3 x4) xs0 x6) := by
  unfold out0_C_10
  rw [View.read_writes_eq_canon _ _ _ (cover0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0)]
  unfold kernelRun0_C
  dsimp only
  rw [View.canon_unit_zero (S := S32x512) hz]
  unfold kernelRun0_C.sl.r_49 kernelRun0_C.sl.r_46 kernelRun0_C.sl.r_40 kernelRun0_C.sl.r_36 kernelRun0_C.sl.r_33 kernelRun0_C.sl.r_34 kernelRun0_C.sl.r_35 kernelRun0_C.sl.r_37 kernelRun0_C.sl.r_38 kernelRun0_C.sl.r_41 kernelRun0_C.sl.r_42 kernelRun0_C.sl.r_47 kernelRun0_C.sl.r_48 kernelRun0_C.sl.r_50 kernelRun0_C.sl.r_51 kernelRun0_C.sl.r_32
  simp only [scratch_C, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz]
  exact db_chain x0 (errM x1 x2 x3 x4) xs0 x6

/-- The product x · a is carried on unchanged. -/
theorem sout_C (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : ¬cond0_0 i) (hc1 : cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) (xo7 : Vec Ideal S1536x128 .f32) (xo8 : Vec Ideal S1536x32 .f32) (xs0 : Vec Ideal S1536x32 .bf16) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0 = xs0 := by
  unfold sout0_C_0
  first | rfl | exact harg12.read_unread xs0

end Cert.KernelIdeal.Value

end
-- ==== Proof.Blocks.lean ====
/- The input blocks of a grid point as parts of the argument arrays, and what the blocks' arithmetic becomes over the
   whole arrays: point t works on columns 512 t … 512 t + 511. -/
module

public import proofs.«01_k».proof.Proof.OutsA
public import proofs.«01_k».proof.Proof.OutsC
public import proofs.«01_k».proof.Proof.Gen.KernelIdeal.Frame
public import Idealize.ShloMosaic.Lib.Pipeline.Value
public import Idealize.ShloMosaic.Lib.StableHlo.Run

@[expose] public section

set_option maxRecDepth 16384

noncomputable section

open Idealize.ShloMosaic Idealize.ShloMosaic.TcCoe Idealize.ShloMosaic.ValueIdx
open Idealize.SL Idealize.SL.Sem
open scoped BigOperators

namespace Cert.Spec

/-- Column `l` of the 512 columns of block `t`, among all 5632. -/
abbrev colIx (t : ℕ) (l : ℕ) : Fin 5632 := ⟨(512 * t + l) % 5632, Nat.mod_lt _ (by decide)⟩

/-- The 512 columns of block `t` of a matrix of 5632 columns. -/
def cols {V : Type} {M : ℕ} (t : ℕ) (A : (⟨2, ![M, 5632]⟩ : Shape).Idx → V) : (⟨2, ![M, 512]⟩ : Shape).Idx → V :=
  fun y => A (ix2 (y 0) (colIx t (y 1).val))

/-- The error of a block of columns is that block of columns of the error. -/
theorem errM_cols (t : ℕ) (w : Mat 2048 5632) (q : (⟨2, ![1024, 5632]⟩ : Shape).Idx → BitVec 8) (s z : Mat 64 5632) :
    errM (cols t w) (cols t q) (cols t s) (cols t z) = cols t (errM w q s z) := rfl

/-- The residual of a block of columns is that block of columns of the residual. -/
theorem resM_cols (t : ℕ) (x : Mat 1536 2048) (e : Mat 2048 5632) (p : Mat 1536 32) (b : Mat 32 5632) :
    resM x (cols t e) p (cols t b) = cols t (resM x e p b) := rfl

/-- The same for −2 · pᵀ · residual. -/
theorem dbM_cols (t : ℕ) (p : Mat 1536 32) (r : Mat 1536 5632) : dbM p (cols t r) = cols t (dbM p r) := rfl

end Cert.Spec

namespace Cert.KernelIdeal.Value

open Cert.KernelIdeal Cert.KernelIdeal.Gen Cert.Spec

variable {F : FTy → Type} [FloatOps F]
variable (m : (ℓ : Loc nD τ sig) → Buf (Elt F) ℓ)

/-- Window 0's block is the whole array of activations, at every point. -/
theorem iblk0 (c : Dev nD) (t : Fin cfg0.N) : (iblk m c 0 t : Vec F S1536x2048 .bf16) = V m c main_v0 := by
  have hi := (by decide +kernel : ∀ t : Fin grid0.N, win0_0.index t 0 = 0 ∧ win0_0.index t 1 = 0) t
  funext y
  unfold iblk
  rw [View.read_apply]
  show V m c main_v0 _ = V m c main_v0 y
  congr 1
  funext a
  apply Fin.ext
  match a with
  | ⟨0, _⟩ => show win0_0.index t 0 * 1536 + 1 * (y 0).val = (y 0).val; rw [hi.1]; omega
  | ⟨1, _⟩ => show win0_0.index t 1 * 2048 + 1 * (y 1).val = (y 1).val; rw [hi.2]; omega

/-- Window 5's block is the whole array `a`, at every point. -/
theorem iblk5 (c : Dev nD) (t : Fin cfg0.N) : (iblk m c 5 t : Vec F S2048x32 .bf16) = V m c main_arg5 := by
  have hi := (by decide +kernel : ∀ t : Fin grid0.N, win0_5.index t 0 = 0 ∧ win0_5.index t 1 = 0) t
  funext y
  unfold iblk
  rw [View.read_apply]
  show V m c main_arg5 _ = V m c main_arg5 y
  congr 1
  funext a
  apply Fin.ext
  match a with
  | ⟨0, _⟩ => show win0_5.index t 0 * 2048 + 1 * (y 0).val = (y 0).val; rw [hi.1]; omega
  | ⟨1, _⟩ => show win0_5.index t 1 * 32 + 1 * (y 1).val = (y 1).val; rw [hi.2]; omega

/-- Window 1's block at point `t` is block `t` of the columns of the weights. -/
theorem iblk1 (c : Dev nD) (t : Fin cfg0.N) :
    (iblk m c 1 t : Vec F S2048x512 .bf16) = cols (M := 2048) t.val (V m c main_arg1) := by
  have hi := (by decide +kernel : ∀ t : Fin grid0.N, win0_1.index t 0 = 0 ∧ win0_1.index t 1 = t.val) t
  have ht : t.val < 11 := lt_of_lt_of_eq t.isLt N_0
  funext y
  have hy : (y 1).val < 512 := (y 1).isLt
  unfold iblk cols
  rw [View.read_apply]
  show V m c main_arg1 _ = V m c main_arg1 _
  congr 1
  funext a
  apply Fin.ext
  match a with
  | ⟨0, _⟩ => show win0_1.index t 0 * 2048 + 1 * (y 0).val = (y 0).val; rw [hi.1]; omega
  | ⟨1, _⟩ => show win0_1.index t 1 * 512 + 1 * (y 1).val = (512 * t.val + (y 1).val) % 5632; rw [hi.2]; omega

/-- Window 2's block at point `t` is block `t` of the columns of the packed codes. -/
theorem iblk2 (c : Dev nD) (t : Fin cfg0.N) :
    (iblk m c 2 t : Vec F S1024x512 .i8) = cols (M := 1024) t.val (V m c main_arg2) := by
  have hi := (by decide +kernel : ∀ t : Fin grid0.N, win0_2.index t 0 = 0 ∧ win0_2.index t 1 = t.val) t
  have ht : t.val < 11 := lt_of_lt_of_eq t.isLt N_0
  funext y
  have hy : (y 1).val < 512 := (y 1).isLt
  unfold iblk cols
  rw [View.read_apply]
  show V m c main_arg2 _ = V m c main_arg2 _
  congr 1
  funext a
  apply Fin.ext
  match a with
  | ⟨0, _⟩ => show win0_2.index t 0 * 1024 + 1 * (y 0).val = (y 0).val; rw [hi.1]; omega
  | ⟨1, _⟩ => show win0_2.index t 1 * 512 + 1 * (y 1).val = (512 * t.val + (y 1).val) % 5632; rw [hi.2]; omega

/-- Window 3's block at point `t` is block `t` of the columns of the scales. -/
theorem iblk3 (c : Dev nD) (t : Fin cfg0.N) :
    (iblk m c 3 t : Vec F S64x512 .bf16) = cols (M := 64) t.val (V m c main_arg3) := by
  have hi := (by decide +kernel : ∀ t : Fin grid0.N, win0_3.index t 0 = 0 ∧ win0_3.index t 1 = t.val) t
  have ht : t.val < 11 := lt_of_lt_of_eq t.isLt N_0
  funext y
  have hy : (y 1).val < 512 := (y 1).isLt
  unfold iblk cols
  rw [View.read_apply]
  show V m c main_arg3 _ = V m c main_arg3 _
  congr 1
  funext a
  apply Fin.ext
  match a with
  | ⟨0, _⟩ => show win0_3.index t 0 * 64 + 1 * (y 0).val = (y 0).val; rw [hi.1]; omega
  | ⟨1, _⟩ => show win0_3.index t 1 * 512 + 1 * (y 1).val = (512 * t.val + (y 1).val) % 5632; rw [hi.2]; omega

/-- Window 4's block at point `t` is block `t` of the columns of the zeros. -/
theorem iblk4 (c : Dev nD) (t : Fin cfg0.N) :
    (iblk m c 4 t : Vec F S64x512 .bf16) = cols (M := 64) t.val (V m c main_arg4) := by
  have hi := (by decide +kernel : ∀ t : Fin grid0.N, win0_4.index t 0 = 0 ∧ win0_4.index t 1 = t.val) t
  have ht : t.val < 11 := lt_of_lt_of_eq t.isLt N_0
  funext y
  have hy : (y 1).val < 512 := (y 1).isLt
  unfold iblk cols
  rw [View.read_apply]
  show V m c main_arg4 _ = V m c main_arg4 _
  congr 1
  funext a
  apply Fin.ext
  match a with
  | ⟨0, _⟩ => show win0_4.index t 0 * 64 + 1 * (y 0).val = (y 0).val; rw [hi.1]; omega
  | ⟨1, _⟩ => show win0_4.index t 1 * 512 + 1 * (y 1).val = (512 * t.val + (y 1).val) % 5632; rw [hi.2]; omega

/-- Window 6's block at point `t` is block `t` of the columns of `b`. -/
theorem iblk6 (c : Dev nD) (t : Fin cfg0.N) :
    (iblk m c 6 t : Vec F S32x512 .bf16) = cols (M := 32) t.val (V m c main_arg6) := by
  have hi := (by decide +kernel : ∀ t : Fin grid0.N, win0_6.index t 0 = 0 ∧ win0_6.index t 1 = t.val) t
  have ht : t.val < 11 := lt_of_lt_of_eq t.isLt N_0
  funext y
  have hy : (y 1).val < 512 := (y 1).isLt
  unfold iblk cols
  rw [View.read_apply]
  show V m c main_arg6 _ = V m c main_arg6 _
  congr 1
  funext a
  apply Fin.ext
  match a with
  | ⟨0, _⟩ => show win0_6.index t 0 * 32 + 1 * (y 0).val = (y 0).val; rw [hi.1]; omega
  | ⟨1, _⟩ => show win0_6.index t 1 * 512 + 1 * (y 1).val = (512 * t.val + (y 1).val) % 5632; rw [hi.2]; omega

end Cert.KernelIdeal.Value

end
-- ==== Proof.OutsB.lean ====
/- What the middle grid points leave in the result blocks, as functions of the point's input blocks and of what the
   point before left. -/
module

public import proofs.«01_k».proof.Proof.Pieces

@[expose] public section

set_option maxRecDepth 16384

noncomputable section

open Idealize.ShloMosaic Idealize.ShloMosaic.TcCoe Idealize.ShloMosaic.Tactic Idealize.ShloMosaic.ValueIdx
open Idealize.SL Idealize.SL.Sem
open scoped BigOperators

namespace Cert.KernelIdeal.Value

open Cert.KernelIdeal Cert.KernelIdeal.Gen Cert.Spec

/-- The lane sums of the squared residual after the point. -/
theorem out_B_7 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : ¬cond0_0 i) (hc1 : ¬cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) (xo7 : Vec Ideal S1536x128 .f32) (xo8 : Vec Ideal S1536x32 .f32) (xs0 : Vec Ideal S1536x32 .bf16) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0 = lossAdd (resM x0 (errM x1 x2 x3 x4) xs0 x6) xo7 := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0)]
  unfold kernelRun0_B
  dsimp only
  unfold kernelRun0_B.sl.r_45 kernelRun0_B.sl.r_44 kernelRun0_B.sl.r_43 kernelRun0_B.sl.r_39 kernelRun0_B.sl.r_34 kernelRun0_B.sl.r_35 kernelRun0_B.sl.r_32 kernelRun0_B.sl.v1066 kernelRun0_B.sl.v1095 kernelRun0_B.sl.v1124 kernelRun0_B.sl.v1153 kernelRun0_B.sl.v1182
  simp only [scratch_B, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz]
  exact loss_canon x0 (errM x1 x2 x3 x4) xs0 x6 xo7

/-- Residual · bᵀ after the point. -/
theorem out_B_8 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : ¬cond0_0 i) (hc1 : ¬cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) (xo7 : Vec Ideal S1536x128 .f32) (xo8 : Vec Ideal S1536x32 .f32) (xs0 : Vec Ideal S1536x32 .bf16) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0 = gAdd (resM x0 (errM x1 x2 x3 x4) xs0 x6) x6 xo8 := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0)]
  unfold kernelRun0_B
  dsimp only
  unfold kernelRun0_B.sl.r_52 kernelRun0_B.sl.r_48 kernelRun0_B.sl.r_42 kernelRun0_B.sl.r_38 kernelRun0_B.sl.r_32 kernelRun0_B.sl.r_34 kernelRun0_B.sl.r_35 kernelRun0_B.sl.v1196 kernelRun0_B.sl.v1167 kernelRun0_B.sl.v1138 kernelRun0_B.sl.v1109 kernelRun0_B.sl.v1080
  simp only [scratch_B, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz]
  exact g_canon x0 (errM x1 x2 x3 x4) xs0 x6 xo8

/-- The point's 512 columns of −2 · pᵀ · residual. -/
theorem out_B_10 (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : ¬cond0_0 i) (hc1 : ¬cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) (xo7 : Vec Ideal S1536x128 .f32) (xo8 : Vec Ideal S1536x32 .f32) (xs0 : Vec Ideal S1536x32 .bf16) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0 = dbM xs0 (resM x0 (errM x1 x2 x3 x4) xs0 x6) := by
  unfold out0_B_10
  rw [View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0)]
  unfold kernelRun0_B
  dsimp only
  rw [View.canon_unit_zero (S := S32x512) hz]
  unfold kernelRun0_B.sl.r_49 kernelRun0_B.sl.r_46 kernelRun0_B.sl.r_40 kernelRun0_B.sl.r_36 kernelRun0_B.sl.r_33 kernelRun0_B.sl.r_34 kernelRun0_B.sl.r_35 kernelRun0_B.sl.r_37 kernelRun0_B.sl.r_38 kernelRun0_B.sl.r_41 kernelRun0_B.sl.r_42 kernelRun0_B.sl.r_47 kernelRun0_B.sl.r_48 kernelRun0_B.sl.r_50 kernelRun0_B.sl.r_51 kernelRun0_B.sl.r_32
  simp only [scratch_B, View.readAt_eq_ld, harg1.read_unread, harg6.read_unread, harg7.read_unread, harg8.read_unread, harg9.read_unread, harg12.read_unread,
    View.ld_unit_zero (S := S32x512) hz, View.ld_unit_zero (S := S1536x2048) hz, View.ld_unit_zero (S := S2048x32) hz]
  exact db_chain x0 (errM x1 x2 x3 x4) xs0 x6

/-- The product x · a is carried on unchanged. -/
theorem sout_B (c : Dev nD) (i : grid0.Coords) (arg1 : Memref sig .tc .vmem S1536x2048 .bf16) (harg1 : arg1.IsWhole) (arg2 : Memref sig .tc .vmem S2048x512 .bf16) (harg2 : arg2.IsWhole) (arg3 : Memref sig .tc .vmem S1024x512 .i8) (harg3 : arg3.IsWhole) (arg4 : Memref sig .tc .vmem S64x512 .bf16) (harg4 : arg4.IsWhole)
  (arg5 : Memref sig .tc .vmem S64x512 .bf16) (harg5 : arg5.IsWhole) (arg6 : Memref sig .tc .vmem S2048x32 .bf16) (harg6 : arg6.IsWhole) (arg7 : Memref sig .tc .vmem S32x512 .bf16) (harg7 : arg7.IsWhole) (arg8 : Memref sig .tc .vmem S1536x128 .f32) (harg8 : arg8.IsWhole) (arg9 : Memref sig .tc .vmem S1536x32 .f32) (harg9 : arg9.IsWhole)
  (arg10 : Memref sig .tc .vmem S2048x32 .f32) (harg10 : arg10.IsWhole) (arg11 : Memref sig .tc .vmem S32x512 .f32) (harg11 : arg11.IsWhole) (arg12 : Memref sig .tc .vmem S1536x32 .bf16) (harg12 : arg12.IsWhole) (arg13 : Memref sig .tc .vmem S2048x512 .bf16) (harg13 : arg13.IsWhole) (hc0 : ¬cond0_0 i) (hc1 : ¬cond0_1 i)
  (x0 : Vec Ideal S1536x2048 .bf16) (x1 : Vec Ideal S2048x512 .bf16) (x2 : Vec Ideal S1024x512 .i8) (x3 : Vec Ideal S64x512 .bf16) (x4 : Vec Ideal S64x512 .bf16) (x5 : Vec Ideal S2048x32 .bf16) (x6 : Vec Ideal S32x512 .bf16) (xo7 : Vec Ideal S1536x128 .f32) (xo8 : Vec Ideal S1536x32 .f32) (xs0 : Vec Ideal S1536x32 .bf16) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xs0 = xs0 := by
  unfold sout0_B_0
  first | rfl | exact harg12.read_unread xs0

end Cert.KernelIdeal.Value

end
-- ==== Proof.Fold.lean ====
/- What the result blocks hold after each grid point, over the whole arguments: the running sums of the loss lanes and of
   residual · bᵀ by recursion on the point, the point's columns of −2 · pᵀ · residual, and the last point's values. -/
module

public import proofs.«01_k».proof.Proof.Blocks
public import proofs.«01_k».proof.Proof.OutsB

@[expose] public section

set_option maxRecDepth 16384

noncomputable section

open Idealize.ShloMosaic Idealize.ShloMosaic.TcCoe Idealize.ShloMosaic.ValueIdx
open Idealize.SL Idealize.SL.Sem
open scoped BigOperators

namespace Cert.Spec

/-- The lane sums of the squared residual after points 0 … n. -/
def lossC (r : Mat 1536 5632) : ℕ → Mat 1536 128
  | 0 => lossAdd (cols 0 r) (fun _ => 0)
  | n + 1 => lossAdd (cols (n + 1) r) (lossC r n)

/-- Residual · bᵀ over the columns of points 0 … n. -/
def gC (r : Mat 1536 5632) (b : Mat 32 5632) : ℕ → Mat 1536 32
  | 0 => gAdd (cols 0 r) (cols 0 b) (fun _ => 0)
  | n + 1 => gAdd (cols (n + 1) r) (cols (n + 1) b) (gC r b n)

end Cert.Spec

namespace Cert.KernelIdeal.Value

open Cert.KernelIdeal Cert.KernelIdeal.Gen Cert.Spec

variable (m : (ℓ : Loc nD τ sig) → Buf (Elt Ideal) ℓ)

/-- The activations, as the region finds them. -/
abbrev xA (c : Dev nD) : Mat 1536 2048 := V (F := Ideal) m c main_v0
/-- The product x · a over the kernel's arguments. -/
abbrev pA (c : Dev nD) : Mat 1536 32 := projM (xA m c) (V (F := Ideal) m c main_arg5)
/-- The error of the quantised matrix over the kernel's arguments. -/
abbrev eA (c : Dev nD) : Mat 2048 5632 :=
  errM (N := 5632) (V (F := Ideal) m c main_arg1) (V (F := Ideal) m c main_arg2) (V (F := Ideal) m c main_arg3) (V (F := Ideal) m c main_arg4)
/-- The second factor over the kernel's arguments. -/
abbrev bA (c : Dev nD) : Mat 32 5632 := V (F := Ideal) m c main_arg6
/-- The residual over the kernel's arguments. -/
abbrev rA (c : Dev nD) : Mat 1536 5632 := resM (xA m c) (eA m c) (pA m c) (bA m c)

/-- Point `t`'s residual, from the point's blocks, is block `t` of the columns of the residual. -/
theorem res_blocks (c : Dev nD) (t : Fin cfg0.N) (p : Mat 1536 32) (hp : p = pA m c) :
    resM (N := 512) (iblk (F := Ideal) m c 0 t) (errM (N := 512) (iblk (F := Ideal) m c 1 t) (iblk (F := Ideal) m c 2 t) (iblk (F := Ideal) m c 3 t) (iblk (F := Ideal) m c 4 t)) p
      (iblk (F := Ideal) m c 6 t) = cols t.val (rA m c) := by
  subst hp
  rw [iblk0, iblk1, iblk2, iblk3, iblk4, iblk6]
  rfl

/-- Point `t`'s −2 · pᵀ · residual, from the point's blocks, is block `t` of the columns of the whole. -/
theorem db_blocks (c : Dev nD) (t : Fin cfg0.N) (p : Mat 1536 32) (hp : p = pA m c) :
    dbM p (resM (N := 512) (iblk (F := Ideal) m c 0 t) (errM (N := 512) (iblk (F := Ideal) m c 1 t) (iblk (F := Ideal) m c 2 t) (iblk (F := Ideal) m c 3 t) (iblk (F := Ideal) m c 4 t)) p
      (iblk (F := Ideal) m c 6 t)) = cols t.val (dbM (pA m c) (rA m c)) := by
  rw [res_blocks m c t p hp, hp]
  rfl

/-- Point `t`'s step of the lane sums, from the point's blocks. -/
theorem loss_blocks (c : Dev nD) (t : Fin cfg0.N) (p : Mat 1536 32) (hp : p = pA m c) (lo lo' : Mat 1536 128) (hlo : lo = lo') :
    lossAdd (resM (N := 512) (iblk (F := Ideal) m c 0 t) (errM (N := 512) (iblk (F := Ideal) m c 1 t) (iblk (F := Ideal) m c 2 t) (iblk (F := Ideal) m c 3 t) (iblk (F := Ideal) m c 4 t)) p
      (iblk (F := Ideal) m c 6 t)) lo = lossAdd (cols t.val (rA m c)) lo' := by
  rw [res_blocks m c t p hp, hlo]

/-- Point `t`'s step of residual · bᵀ, from the point's blocks. -/
theorem g_blocks (c : Dev nD) (t : Fin cfg0.N) (p : Mat 1536 32) (hp : p = pA m c) (go go' : Mat 1536 32) (hgo : go = go') :
    gAdd (resM (N := 512) (iblk (F := Ideal) m c 0 t) (errM (N := 512) (iblk (F := Ideal) m c 1 t) (iblk (F := Ideal) m c 2 t) (iblk (F := Ideal) m c 3 t) (iblk (F := Ideal) m c 4 t)) p
      (iblk (F := Ideal) m c 6 t)) (iblk (F := Ideal) m c 6 t) go = gAdd (cols t.val (rA m c)) (cols t.val (bA m c)) go' := by
  rw [res_blocks m c t p hp, hgo, iblk6]

/-- Point `t`'s product x · a is the whole product. -/
theorem proj_blocks (c : Dev nD) (t : Fin cfg0.N) :
    projM (iblk (F := Ideal) m c 0 t) (iblk (F := Ideal) m c 5 t) = pA m c := by
  rw [iblk0, iblk5]

/-- After each point but the last: the running sums, the point's columns, and the carried product x · a. -/
theorem fold (c : Dev nD) : ∀ (n : ℕ) (h : n < cfg0.N), n < 10 →
    (outsAt0 (F := Ideal) m c n h).1 = lossC (rA m c) n
    ∧ (outsAt0 (F := Ideal) m c n h).2.1 = gC (rA m c) (bA m c) n
    ∧ (outsAt0 (F := Ideal) m c n h).2.2.2.1 = cols n (dbM (pA m c) (rA m c))
    ∧ (outsAt0 (F := Ideal) m c n h).2.2.2.2 = pA m c
  | 0, h, _ => by
    have e := outsAt0_A (F := Ideal) m c ⟨0, h⟩ rfl (by dsimp only; decide)
    dsimp only at e
    rw [e]
    dsimp only
    refine ⟨(out_A_7 ..).trans ?_, (out_A_8 ..).trans ?_, (out_A_10 ..).trans ?_, (sout_A ..).trans ?_⟩
    · exact loss_blocks m c ⟨0, h⟩ _ (proj_blocks m c ⟨0, h⟩) _ _ rfl
    · exact g_blocks m c ⟨0, h⟩ _ (proj_blocks m c ⟨0, h⟩) _ _ rfl
    · exact db_blocks m c ⟨0, h⟩ _ (proj_blocks m c ⟨0, h⟩)
    · exact proj_blocks m c ⟨0, h⟩
  | n + 1, h, h10 => by
    obtain ⟨i1, i2, -, i4⟩ := fold c n (Nat.lt_of_succ_lt h) (by omega)
    have e := outsAt0_B (F := Ideal) m c ⟨n + 1, h⟩ (by dsimp only; omega) (by dsimp only; omega)
    dsimp only at e
    rw [e]
    dsimp only
    refine ⟨(out_B_7 ..).trans ?_, (out_B_8 ..).trans ?_, (out_B_10 ..).trans ?_, (sout_B ..).trans ?_⟩
    · exact loss_blocks m c ⟨n + 1, h⟩ _ i4 _ _ i1
    · exact g_blocks m c ⟨n + 1, h⟩ _ i4 _ _ i2
    · exact db_blocks m c ⟨n + 1, h⟩ _ i4
    · exact i4

/-- After the last point: column 0 of the loss lanes holds the sum of all lanes, `da` is computed from the whole
    residual · bᵀ, and the last columns of `db` are in place. -/
theorem fold_last (c : Dev nD) (h : 10 < cfg0.N) :
    (outsAt0 (F := Ideal) m c 10 h).1 = lossEnd (lossC (rA m c) 10)
    ∧ (outsAt0 (F := Ideal) m c 10 h).2.1 = gC (rA m c) (bA m c) 10
    ∧ (outsAt0 (F := Ideal) m c 10 h).2.2.1 = daM (xA m c) (gC (rA m c) (bA m c) 10)
    ∧ (outsAt0 (F := Ideal) m c 10 h).2.2.2.1 = cols 10 (dbM (pA m c) (rA m c)) := by
  obtain ⟨i1, i2, -, i4⟩ := fold m c 9 (Nat.lt_of_succ_lt h) (by omega)
  have e := outsAt0_C (F := Ideal) m c ⟨10, h⟩ (by dsimp only; omega) (by dsimp only)
  dsimp only at e
  have hg := g_blocks m c ⟨10, h⟩ _ i4 _ _ i2
  rw [e]
  dsimp only
  refine ⟨(out_C_7 ..).trans ?_, (out_C_8 ..).trans ?_, (out_C_9 ..).trans ?_, (out_C_10 ..).trans ?_⟩
  · exact congrArg lossEnd (loss_blocks m c ⟨10, h⟩ _ i4 _ _ i1)
  · exact hg
  · exact congrArg₂ daM (iblk0 m c ⟨10, h⟩) hg
  · exact db_blocks m c ⟨10, h⟩ _ i4

end Cert.KernelIdeal.Value

end
-- ==== Proof.Arrays.lean ====
/- What the kernel's four result arrays hold after the run, the host lines after the grid included. -/
module

public import proofs.«01_k».proof.Proof.Fold

@[expose] public section

set_option maxRecDepth 16384

noncomputable section

open Idealize.ShloMosaic Idealize.ShloMosaic.TcCoe Idealize.ShloMosaic.ValueIdx
open Idealize.SL Idealize.SL.Sem
open scoped BigOperators

namespace Cert.KernelIdeal.Value

open Cert.KernelIdeal Cert.KernelIdeal.Gen Cert.Spec

variable (m : (ℓ : Loc nD τ sig) → Buf (Elt Ideal) ℓ)

/-- The last grid point. -/
abbrev tLast : Fin cfg0.N := ⟨10, lt_of_lt_of_eq (by decide) N_0.symm⟩

/-- The only point whose remainder is ten is the last. -/
theorem eq_tLast (t : Fin cfg0.N) (h : t.val % 11 = 10) : t = tLast := by
  have ht : t.val < 11 := lt_of_lt_of_eq t.isLt N_0
  exact Fin.ext (by show t.val = 10; omega)

/-- The loss lanes the grid ends with. -/
abbrev lossEndA (c : Dev nD) : Mat 1536 128 := lossEnd (lossC (rA m c) 10)
/-- Residual · bᵀ over all columns, as the grid sums it. -/
abbrev gEndA (c : Dev nD) : Mat 1536 32 := gC (rA m c) (bA m c) 10
/-- −2 · xᵀ · g. -/
abbrev daEndA (c : Dev nD) : Mat 2048 32 := daM (xA m c) (gEndA m c)
/-- −2 · pᵀ · residual. -/
abbrev dbEndA (c : Dev nD) : Mat 32 5632 := dbM (pA m c) (rA m c)

/-- The last point writes the whole array of window 7 back. -/
theorem flushed7 (c : Dev nD) (t : Fin cfg0.N) (hf : (cfg0.win 7).flush t = true) :
    (dats (F := Ideal) m 0 c).flushed 7 t = ((cfg0.win 7).blk t).view.read (Elt Ideal) (lossEndA m c) := by
  obtain rfl := eq_tLast t ((flush0_7 t).mp hf)
  have hi : win0_7.index tLast 0 = 0 ∧ win0_7.index tLast 1 = 0 := by decide +kernel
  show (cfg0.win 7).cut (grid0.coords tLast) ((dats (F := Ideal) m 0 c).after 7 tLast) = _
  rw [after0_7, (fold_last m c tLast.isLt).1]
  funext y
  rw [View.read_apply]
  show lossEndA m c _ = lossEndA m c _
  congr 1
  funext a
  apply Fin.ext
  match a with
  | ⟨0, _⟩ => show (y 0).val = win0_7.index tLast 0 * 1536 + 1 * (y 0).val; rw [hi.1]; omega
  | ⟨1, _⟩ => show (y 1).val = win0_7.index tLast 1 * 128 + 1 * (y 1).val; rw [hi.2]; omega

/-- So the array of window 7 ends holding it. -/
theorem final7 (c : Dev nD) : (dats (F := Ideal) m 0 c).arrAt 7 cfg0.N = lossEndA m c :=
  (dats (F := Ideal) m 0 c).arrAt_eq_of_cover 7 _ (flushed7 m c) fun i =>
    ⟨tLast, (flush0_7 tLast).mpr rfl, by
      have hi : win0_7.index tLast 0 = 0 ∧ win0_7.index tLast 1 = 0 := by decide +kernel
      show i ∈ ((View.whole main_v1_0).slice (win0_7.rect tLast)).set
      rw [View.set_slice_whole, Rect.mem_set_unit]
      intro a
      have h0 : (i 0 : Nat) < 1536 := (i 0).isLt
      have h1 : (i 1 : Nat) < 128 := (i 1).isLt
      match a with
      | ⟨0, _⟩ => show win0_7.index tLast 0 * 1536 ≤ (i 0 : Nat) ∧ (i 0 : Nat) < win0_7.index tLast 0 * 1536 + 1536; rw [hi.1]; omega
      | ⟨1, _⟩ => show win0_7.index tLast 1 * 128 ≤ (i 1 : Nat) ∧ (i 1 : Nat) < win0_7.index tLast 1 * 128 + 128; rw [hi.2]; omega⟩

/-- The last point writes the whole array of window 8 back. -/
theorem flushed8 (c : Dev nD) (t : Fin cfg0.N) (hf : (cfg0.win 8).flush t = true) :
    (dats (F := Ideal) m 0 c).flushed 8 t = ((cfg0.win 8).blk t).view.read (Elt Ideal) (gEndA m c) := by
  obtain rfl := eq_tLast t ((flush0_8 t).mp hf)
  have hi : win0_8.index tLast 0 = 0 ∧ win0_8.index tLast 1 = 0 := by decide +kernel
  show (cfg0.win 8).cut (grid0.coords tLast) ((dats (F := Ideal) m 0 c).after 8 tLast) = _
  rw [after0_8, (fold_last m c tLast.isLt).2.1]
  funext y
  rw [View.read_apply]
  show gEndA m c _ = gEndA m c _
  congr 1
  funext a
  apply Fin.ext
  match a with
  | ⟨0, _⟩ => show (y 0).val = win0_8.index tLast 0 * 1536 + 1 * (y 0).val; rw [hi.1]; omega
  | ⟨1, _⟩ => show (y 1).val = win0_8.index tLast 1 * 32 + 1 * (y 1).val; rw [hi.2]; omega

/-- So the array of window 8 ends holding it. -/
theorem final8 (c : Dev nD) : (dats (F := Ideal) m 0 c).arrAt 8 cfg0.N = gEndA m c :=
  (dats (F := Ideal) m 0 c).arrAt_eq_of_cover 8 _ (flushed8 m c) fun i =>
    ⟨tLast, (flush0_8 tLast).mpr rfl, by
      have hi : win0_8.index tLast 0 = 0 ∧ win0_8.index tLast 1 = 0 := by decide +kernel
      show i ∈ ((View.whole main_v1_1).slice (win0_8.rect tLast)).set
      rw [View.set_slice_whole, Rect.mem_set_unit]
      intro a
      have h0 : (i 0 : Nat) < 1536 := (i 0).isLt
      have h1 : (i 1 : Nat) < 32 := (i 1).isLt
      match a with
      | ⟨0, _⟩ => show win0_8.index tLast 0 * 1536 ≤ (i 0 : Nat) ∧ (i 0 : Nat) < win0_8.index tLast 0 * 1536 + 1536; rw [hi.1]; omega
      | ⟨1, _⟩ => show win0_8.index tLast 1 * 32 ≤ (i 1 : Nat) ∧ (i 1 : Nat) < win0_8.index tLast 1 * 32 + 32; rw [hi.2]; omega⟩

/-- The last point writes the whole array of window 9 back. -/
theorem flushed9 (c : Dev nD) (t : Fin cfg0.N) (hf : (cfg0.win 9).flush t = true) :
    (dats (F := Ideal) m 0 c).flushed 9 t = ((cfg0.win 9).blk t).view.read (Elt Ideal) (daEndA m c) := by
  obtain rfl := eq_tLast t ((flush0_9 t).mp hf)
  have hi : win0_9.index tLast 0 = 0 ∧ win0_9.index tLast 1 = 0 := by decide +kernel
  show (cfg0.win 9).cut (grid0.coords tLast) ((dats (F := Ideal) m 0 c).after 9 tLast) = _
  rw [after0_9, (fold_last m c tLast.isLt).2.2.1]
  funext y
  rw [View.read_apply]
  show daEndA m c _ = daEndA m c _
  congr 1
  funext a
  apply Fin.ext
  match a with
  | ⟨0, _⟩ => show (y 0).val = win0_9.index tLast 0 * 2048 + 1 * (y 0).val; rw [hi.1]; omega
  | ⟨1, _⟩ => show (y 1).val = win0_9.index tLast 1 * 32 + 1 * (y 1).val; rw [hi.2]; omega

/-- So the array of window 9 ends holding it. -/
theorem final9 (c : Dev nD) : (dats (F := Ideal) m 0 c).arrAt 9 cfg0.N = daEndA m c :=
  (dats (F := Ideal) m 0 c).arrAt_eq_of_cover 9 _ (flushed9 m c) fun i =>
    ⟨tLast, (flush0_9 tLast).mpr rfl, by
      have hi : win0_9.index tLast 0 = 0 ∧ win0_9.index tLast 1 = 0 := by decide +kernel
      show i ∈ ((View.whole main_v1_2).slice (win0_9.rect tLast)).set
      rw [View.set_slice_whole, Rect.mem_set_unit]
      intro a
      have h0 : (i 0 : Nat) < 2048 := (i 0).isLt
      have h1 : (i 1 : Nat) < 32 := (i 1).isLt
      match a with
      | ⟨0, _⟩ => show win0_9.index tLast 0 * 2048 ≤ (i 0 : Nat) ∧ (i 0 : Nat) < win0_9.index tLast 0 * 2048 + 2048; rw [hi.1]; omega
      | ⟨1, _⟩ => show win0_9.index tLast 1 * 32 ≤ (i 1 : Nat) ∧ (i 1 : Nat) < win0_9.index tLast 1 * 32 + 32; rw [hi.2]; omega⟩

/-- Each point leaves its 512 columns of −2 · pᵀ · residual. -/
theorem db_at (c : Dev nD) (t : Fin cfg0.N) :
    (outsAt0 (F := Ideal) m c t.val t.isLt).2.2.2.1 = cols t.val (dbEndA m c) := by
  have ht : t.val < 11 := lt_of_lt_of_eq t.isLt N_0
  by_cases h : t.val < 10
  · exact (fold m c t.val t.isLt h).2.2.1
  · obtain rfl := eq_tLast t (by omega)
    exact (fold_last m c tLast.isLt).2.2.2

/-- Point `t` writes block `t` of the columns of −2 · pᵀ · residual back. -/
theorem flushed10 (c : Dev nD) (t : Fin cfg0.N) (_ : (cfg0.win 10).flush t = true) :
    (dats (F := Ideal) m 0 c).flushed 10 t = ((cfg0.win 10).blk t).view.read (Elt Ideal) (dbEndA m c) := by
  have hi := (by decide +kernel : ∀ t : Fin grid0.N, win0_10.index t 0 = 0 ∧ win0_10.index t 1 = t.val) t
  have ht : t.val < 11 := lt_of_lt_of_eq t.isLt N_0
  show (cfg0.win 10).cut (grid0.coords t) ((dats (F := Ideal) m 0 c).after 10 t) = _
  rw [after0_10, db_at]
  funext y
  have hy : (y 1).val < 512 := (y 1).isLt
  rw [View.read_apply]
  show dbEndA m c _ = dbEndA m c _
  congr 1
  funext a
  apply Fin.ext
  match a with
  | ⟨0, _⟩ => show (y 0).val = win0_10.index t 0 * 32 + 1 * (y 0).val; rw [hi.1]; omega
  | ⟨1, _⟩ => show (512 * t.val + (y 1).val) % 5632 = win0_10.index t 1 * 512 + 1 * (y 1).val; rw [hi.2]; omega

/-- So the array of window 10 ends holding −2 · pᵀ · residual. -/
theorem final10 (c : Dev nD) : (dats (F := Ideal) m 0 c).arrAt 10 cfg0.N = dbEndA m c :=
  (dats (F := Ideal) m 0 c).arrAt_eq_of_cover 10 _ (flushed10 m c) fun i => by
    have h0 : (i 0 : Nat) < 32 := (i 0).isLt
    have h1 : (i 1 : Nat) < 5632 := (i 1).isLt
    obtain ⟨t, ht⟩ : ∃ t : Fin cfg0.N, t.val = (i 1 : Nat) / 512 := ⟨⟨(i 1 : Nat) / 512, lt_of_lt_of_eq (by omega) N_0.symm⟩, rfl⟩
    have hi := (by decide +kernel : ∀ t : Fin grid0.N, win0_10.index t 0 = 0 ∧ win0_10.index t 1 = t.val) t
    refine ⟨t, flush0_10 t, ?_⟩
    show i ∈ ((View.whole main_v1_3).slice (win0_10.rect t)).set
    rw [View.set_slice_whole, Rect.mem_set_unit]
    intro a
    match a with
    | ⟨0, _⟩ => show win0_10.index t 0 * 32 ≤ (i 0 : Nat) ∧ (i 0 : Nat) < win0_10.index t 0 * 32 + 32; rw [hi.1]; omega
    | ⟨1, _⟩ => show win0_10.index t 1 * 512 ≤ (i 1 : Nat) ∧ (i 1 : Nat) < win0_10.index t 1 * 512 + 512; rw [hi.2]; omega

/-- The windows' arrays are distinct. -/
theorem arr_inj : Function.Injective (Pipeline.arrRef spec0) := by decide

/-- The host lines after the grid leave, as the loss, column 0 of the loss lanes in the tokens' shape. -/
theorem tail_loss (c : Dev nD) :
    Pipeline.afterTail₀ cfgs (dats (F := Ideal) m) 0 (V0 m) [hostOps1] c main_v4
      = shapeCast S12x128 (shapeCast S1536 (extractStridedSlice S1536x1 ![0, 0] (lossEndA m c : Vec Ideal S1536x128 .f32)
          slices_S1536x128_S1536x1_0_0) shapeCasts_S1536x1_S1536) shapeCasts_S1536_S12x128 := by
  have e := Pipeline.withArrays_arr spec0 arr_inj c (V0 m c) (fun w => (dats (F := Ideal) m 0 c).arrAt w cfg0.N) 7
  rw [final7] at e
  rw [← e]
  unfold Pipeline.afterTail₀
  after_results_simp <;> rfl

/-- And, as g, residual · bᵀ in the tokens' shape. -/
theorem tail_g (c : Dev nD) :
    Pipeline.afterTail₀ cfgs (dats (F := Ideal) m) 0 (V0 m) [hostOps1] c main_v5
      = shapeCast S12x128x32 (gEndA m c : Vec Ideal S1536x32 .f32) shapeCasts_S1536x32_S12x128x32 := by
  have e := Pipeline.withArrays_arr spec0 arr_inj c (V0 m c) (fun w => (dats (F := Ideal) m 0 c).arrAt w cfg0.N) 8
  rw [final8] at e
  rw [← e]
  unfold Pipeline.afterTail₀
  after_results_simp <;> rfl

/-- The host line before the grid leaves the activations as one matrix of all tokens. -/
theorem xA_eq (c : Dev nD) :
    xA m c = shapeCast S1536x2048 (m ((c : Thread nD τ).loc main_arg0) : Vec Ideal S12x128x2048 .bf16) shapeCasts_S12x128x2048_S1536x2048 := by
  show StableHlo.after (hostOps0 (F := Ideal)) (fun b => m (c, b)) (Proc.devRef .tc main_v0) = _
  after_results <;> rfl

variable (ρ : Dev nD → PrngReg)

/-- The kernel's run: each result at its value, the arguments unchanged. -/
theorem run : θ_run (defs (F := Ideal)) (onTc (τ := τ) (main (F := Ideal))) ⟨m, fun _ => 0, ρ⟩ fun r => ∀ c : Dev nD,
      r.2.mem ((c.tc : Thread nD τ).loc main_v4)
        = shapeCast S12x128 (shapeCast S1536 (extractStridedSlice S1536x1 ![0, 0] (lossEndA m c : Vec Ideal S1536x128 .f32)
          slices_S1536x128_S1536x1_0_0) shapeCasts_S1536x1_S1536) shapeCasts_S1536_S12x128
      ∧ r.2.mem ((c.tc : Thread nD τ).loc main_v5)
        = shapeCast S12x128x32 (gEndA m c : Vec Ideal S1536x32 .f32) shapeCasts_S1536x32_S12x128x32
      ∧ r.2.mem ((c.tc : Thread nD τ).loc main_v1_2) = daEndA m c
      ∧ r.2.mem ((c.tc : Thread nD τ).loc main_v1_3) = dbEndA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c =>
    ⟨((h c).2 main_v4 (Pipeline.mem_restRefs_of main_v4 (by decide) (by decide))).trans (tail_loss m c),
      ((h c).2 main_v5 (Pipeline.mem_restRefs_of main_v5 (by decide) (by decide))).trans (tail_g m c),
      ((h c).1 9).trans (final9 m c), ((h c).1 10).trans (final10 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main m ρ)

end Cert.KernelIdeal.Value

end
-- ==== Proof.RefError.lean ====
/- The reference's two halves of the error matrix, entry by entry. -/
module

public import proofs.«01_k».proof.Proof.Spec
public import proofs.«01_k».proof.Proof.Gen.ReferenceIdeal.Read

@[expose] public section

set_option maxRecDepth 16384

noncomputable section

open Idealize.ShloMosaic Idealize.ShloMosaic.TcCoe Idealize.ShloMosaic.ValueIdx
open Idealize.SL Idealize.SL.Sem
open scoped BigOperators

namespace Cert.ReferenceIdeal.Read

open Cert.ReferenceIdeal Cert.ReferenceIdeal.Gen Cert.Spec

/-- The low half of a byte, as the reference reads it. -/
theorem ref_lo (b : BitVec 8) :
    (FloatOps.sitofp (F := Ideal) .bf16 (IntOp.andi (b.setWidth 32) 15#32)) = (((b.toNat % 16 : ℕ) : ℝ) : EReal) := by
  have h : (IntOp.andi (b.setWidth 32) 15#32).toInt = ((b.toNat % 16 : ℕ) : ℤ) := by
    revert b; decide +kernel
  show (((IntOp.andi (b.setWidth 32) 15#32).toInt : ℝ) : EReal) = _
  rw [h, Int.cast_natCast]

/-- The high half of a byte, as the reference reads it. -/
theorem ref_hi (b : BitVec 8) :
    (FloatOps.sitofp (F := Ideal) .bf16 (IntOp.shrsi .host (b.setWidth 32) 4#32)) = (((b.toNat / 16 : ℕ) : ℝ) : EReal) := by
  have h : (IntOp.shrsi .host (b.setWidth 32) 4#32).toInt = ((b.toNat / 16 : ℕ) : ℤ) := by
    revert b; decide +kernel
  show (((IntOp.shrsi .host (b.setWidth 32) 4#32).toInt : ℝ) : EReal) = _
  rw [h, Int.cast_natCast]

variable (x1 : (⟨S2048x5632, .bf16⟩ : BufTy).Contents (Elt Ideal)) (x2 : (⟨S1024x5632, .i8⟩ : BufTy).Contents (Elt Ideal))
  (x3 x4 : (⟨S64x5632, .bf16⟩ : BufTy).Contents (Elt Ideal))

/-- Splitting the rows into groups of 32 and joining them again gives back each place. -/
theorem regroup (k : Fin 1024) (n : Fin 5632) : idx_main_v9 (idx_main_v16 (ix2 k n)) = ix2 k n := by
  have hk := k.isLt; have hn := n.isLt
  funext a; apply Fin.ext
  match a with
  | ⟨0, _⟩ =>
    show (((k.val * 5632 + n.val) / 180224 * 32 + (k.val * 5632 + n.val) / 5632 % 32) * 5632 + (k.val * 5632 + n.val) % 5632) / 5632 = k.val
    omega
  | ⟨1, _⟩ =>
    show (((k.val * 5632 + n.val) / 180224 * 32 + (k.val * 5632 + n.val) / 5632 % 32) * 5632 + (k.val * 5632 + n.val) % 5632) % 5632 = n.val
    omega

/-- The first half of the reference's error matrix is rows 0 … 1023. -/
theorem error_lo (k : Fin 1024) (n : Fin 5632) (k' : Fin 2048) (hk' : k'.val = k.val) :
    val_main_v17 x1 x2 x3 x4 (ix2 k n) = errM x1 x2 x3 x4 (ix2 k' n) := by
  have hk := k.isLt; have hn := n.isLt
  rw [val_main_v17_apply, val_main_v5_apply, val_main_v16_apply, val_main_v15_apply, val_main_v12_apply,
    val_main_v9_apply, val_main_v11_apply, val_main_v10_apply, val_main_v7_apply, val_main_v14_apply, val_main_v13_apply,
    val_main_v6_apply, regroup, val_main_v8_apply, val_main_v2_apply, val_main_v0_apply, val_main_v1_apply, val_main_c_apply, ref_lo]
  show x1 _ - (_ - x4 _) * x3 _ = err x1 x2 x3 x4 k' n
  unfold err code
  rw [if_pos (by omega)]
  congr 2
  · congr 1; funext a; apply Fin.ext
    match a with | ⟨0, _⟩ => exact hk'.symm | ⟨1, _⟩ => rfl
  · congr 1
    · congr 5; funext a; apply Fin.ext
      match a with
      | ⟨0, _⟩ => show k.val = k'.val % 1024; omega
      | ⟨1, _⟩ => rfl
    · congr 1; funext a; apply Fin.ext
      match a with
      | ⟨0, _⟩ => show (k.val * 5632 + n.val) / 180224 = k'.val / 32; omega
      | ⟨1, _⟩ => show (k.val * 5632 + n.val) % 5632 = n.val; omega
  · congr 1; funext a; apply Fin.ext
    match a with
    | ⟨0, _⟩ => show (k.val * 5632 + n.val) / 180224 = k'.val / 32; omega
    | ⟨1, _⟩ => show (k.val * 5632 + n.val) % 5632 = n.val; omega

/-- The second half of the reference's error matrix is rows 1024 … 2047. -/
theorem error_hi (k : Fin 1024) (n : Fin 5632) (k' : Fin 2048) (hk' : k'.val = 1024 + k.val) :
    val_main_v30 x1 x2 x3 x4 (ix2 k n) = errM x1 x2 x3 x4 (ix2 k' n) := by
  have hk := k.isLt; have hn := n.isLt
  rw [val_main_v30_apply, val_main_v18_apply, val_main_v29_apply, val_main_v28_apply, val_main_v25_apply,
    val_main_v22_apply, val_main_v24_apply, val_main_v23_apply, val_main_v20_apply, val_main_v27_apply, val_main_v26_apply,
    val_main_v19_apply, show idx_main_v22 (idx_main_v29 (ix2 k n)) = ix2 k n from regroup k n,
    val_main_v21_apply, val_main_v4_apply, val_main_v0_apply, val_main_v3_apply, val_main_c_0_apply, ref_hi]
  show x1 _ - (_ - x4 _) * x3 _ = err x1 x2 x3 x4 k' n
  unfold err code
  rw [if_neg (by omega)]
  congr 2
  · congr 1; funext a; apply Fin.ext
    match a with | ⟨0, _⟩ => exact hk'.symm | ⟨1, _⟩ => rfl
  · congr 1
    · congr 5; funext a; apply Fin.ext
      match a with
      | ⟨0, _⟩ => show k.val = k'.val % 1024; omega
      | ⟨1, _⟩ => rfl
    · congr 1; funext a; apply Fin.ext
      match a with
      | ⟨0, _⟩ => show 32 + (k.val * 5632 + n.val) / 180224 = k'.val / 32; omega
      | ⟨1, _⟩ => show (k.val * 5632 + n.val) % 5632 = n.val; omega
  · congr 1; funext a; apply Fin.ext
    match a with
    | ⟨0, _⟩ => show 32 + (k.val * 5632 + n.val) / 180224 = k'.val / 32; omega
    | ⟨1, _⟩ => show (k.val * 5632 + n.val) % 5632 = n.val; omega

end Cert.ReferenceIdeal.Read

end
-- ==== Proof.Sums.lean ====
/- The kernel's sums, taken a grid point and a lane at a time, as plain sums over all 5632 columns. -/
module

public import proofs.«01_k».proof.Proof.Fold

@[expose] public section

noncomputable section

open Idealize.ShloMosaic Idealize.ShloMosaic.ValueIdx
open scoped BigOperators

namespace Cert.Spec

/-- A sum over all columns, in 11 blocks of 512. -/
theorem sum_cols {R : Type*} [AddCommMonoid R] (f : Fin 5632 → R) :
    ∑ n : Fin 5632, f n = ∑ t : Fin 11, ∑ l : Fin 512, f (colIx t.val l.val) := by
  rw [sum_runs 11 512 5632 (by decide) f]
  refine Finset.sum_congr rfl fun t _ => Finset.sum_congr rfl fun l _ => congrArg f (Fin.ext ?_)
  show 512 * t.val + l.val = (512 * t.val + l.val) % 5632
  have := t.isLt; have := l.isLt; omega

/-- A sum over all columns, a lane at a time: lane `l` takes one column of each run of 128. -/
theorem sum_lanes {R : Type*} [AddCommMonoid R] (f : Fin 5632 → R) :
    ∑ n : Fin 5632, f n = ∑ l : Fin 128, ∑ t : Fin 11, ∑ q : Fin 4, f (colIx t.val (128 * q.val + l.val)) := by
  rw [sum_cols, Finset.sum_comm (s := (Finset.univ : Finset (Fin 128)))]
  refine Finset.sum_congr rfl fun t _ => ?_
  rw [Finset.sum_comm, sum_runs 4 128 512 (by decide) fun l : Fin 512 => f (colIx t.val l.val)]

/-- The lane sums after points 0 … n. -/
theorem lossC_apply (r : Mat 1536 5632) (n : ℕ) (y : (⟨2, ![1536, 128]⟩ : Shape).Idx) :
    lossC r n y = ∑ t ∈ Finset.range (n + 1), ∑ q : Fin 4,
      r (ix2 (y 0) (colIx t (128 * q.val + (y 1).val))) * r (ix2 (y 0) (colIx t (128 * q.val + (y 1).val))) := by
  induction n with
  | zero => rw [Finset.sum_range_one]; exact zero_add _
  | succ n ih => rw [Finset.sum_range_succ, ← ih]; rfl

/-- Residual · bᵀ after points 0 … n. -/
theorem gC_apply (r : Mat 1536 5632) (b : Mat 32 5632) (n : ℕ) (y : (⟨2, ![1536, 32]⟩ : Shape).Idx) :
    gC r b n y = ∑ t ∈ Finset.range (n + 1), ∑ l : Fin 512,
      r (ix2 (y 0) (colIx t l.val)) * b (ix2 (y 1) (colIx t l.val)) := by
  induction n with
  | zero => rw [Finset.sum_range_one]; exact zero_add _
  | succ n ih => rw [Finset.sum_range_succ, ← ih]; rfl

/-- The loss of token `i`: the sum of the squared residual over all columns. -/
def lossTok (r : Mat 1536 5632) (i : Fin 1536) : EReal := ∑ n : Fin 5632, r (ix2 i n) * r (ix2 i n)

/-- Residual · bᵀ. -/
def gM (r : Mat 1536 5632) (b : Mat 32 5632) : Mat 1536 32 := fun y => ∑ n : Fin 5632, r (ix2 (y 0) n) * b (ix2 (y 1) n)

/-- Column 0 of the loss lanes, after the last point, is the loss of each token. -/
theorem lossEnd_col0 (r : Mat 1536 5632) (i : Fin 1536) : lossEnd (lossC r 10) (ix2 i 0) = lossTok r i := by
  refine (if_pos rfl).trans ?_
  unfold lossTok
  rw [sum_lanes]
  refine Finset.sum_congr rfl fun l _ => ?_
  rw [lossC_apply, Finset.sum_range]

/-- The grid's sum of residual · bᵀ is the sum over all columns. -/
theorem gC_last (r : Mat 1536 5632) (b : Mat 32 5632) : gC r b 10 = gM r b := by
  funext y
  unfold gM
  rw [gC_apply, Finset.sum_range, sum_cols]

end Cert.Spec

end
-- ==== Proof.Reference.lean ====
/- What the reference computes: each of its four results as a sum over the token matrix, whose row 128·b + s is token
   (b, s), and over the error matrix. -/
module

public import proofs.«01_k».proof.Proof.RefError
public import proofs.«01_k».proof.Proof.Tiles
public import proofs.«01_k».proof.Proof.Sums
public import Idealize.ShloMosaic.Lib.TwoAxisContraction

@[expose] public section

set_option maxRecDepth 16384

noncomputable section

open Idealize.ShloMosaic Idealize.ShloMosaic.TcCoe Idealize.ShloMosaic.ValueIdx
open Idealize.SL Idealize.SL.Sem
open scoped BigOperators

namespace Cert.ReferenceIdeal.Read

open Cert.ReferenceIdeal Cert.ReferenceIdeal.Gen Cert.Spec
open Cert.KernelIdeal.Value (zero32 negTwo32)

/-- The row of the token matrix that token `s` of batch `b` is. -/
abbrev row (b : Fin 12) (s : Fin 128) : Fin 1536 := ⟨128 * b.val + s.val, by have := b.isLt; have := s.isLt; omega⟩

/-- The token matrix. -/
abbrev tok (x0 : (⟨S12x128x2048, .bf16⟩ : BufTy).Contents (Elt Ideal)) : Mat 1536 2048 := fun y =>
  x0 (ix3 (n0 := 12) (n1 := 128) (n2 := 2048) ⟨(y 0).val / 128, by have : (y 0).val < 1536 := (y 0).isLt; omega⟩ ⟨(y 0).val % 128, Nat.mod_lt _ (by decide)⟩ (y 1))

/-- The token matrix at the row of a token. -/
theorem tok_row (x0 : (⟨S12x128x2048, .bf16⟩ : BufTy).Contents (Elt Ideal)) (b : Fin 12) (s : Fin 128) (k : Fin 2048) :
    tok x0 (ix2 (row b s) k) = x0 (ix3 b s k) := by
  have hb := b.isLt; have hs := s.isLt
  refine congrArg x0 (funext fun a => Fin.ext ?_)
  match a with
  | ⟨0, _⟩ => show (128 * b.val + s.val) / 128 = b.val; omega
  | ⟨1, _⟩ => show (128 * b.val + s.val) % 128 = s.val; omega
  | ⟨2, _⟩ => rfl

variable (x0 : (⟨S12x128x2048, .bf16⟩ : BufTy).Contents (Elt Ideal)) (x1 : (⟨S2048x5632, .bf16⟩ : BufTy).Contents (Elt Ideal))
  (x2 : (⟨S1024x5632, .i8⟩ : BufTy).Contents (Elt Ideal)) (x3 x4 : (⟨S64x5632, .bf16⟩ : BufTy).Contents (Elt Ideal))
  (x5 : (⟨S2048x32, .bf16⟩ : BufTy).Contents (Elt Ideal)) (x6 : (⟨S32x5632, .bf16⟩ : BufTy).Contents (Elt Ideal))

/-- Tokens · a. -/
abbrev pR : Mat 1536 32 := projM (tok x0) x5

/-- The residual of every token. -/
abbrev rR : Mat 1536 5632 := resM (tok x0) (errM x1 x2 x3 x4) (pR x0 x5) x6

/-- The reference's tokens · a. -/
theorem ref_proj (b : Fin 12) (s : Fin 128) (r : Fin 32) : val_main_v37 x0 x5 (ix3 b s r) = pR x0 x5 (ix2 (row b s) r) := by
  rw [val_main_v37_apply]
  show val_main_v36 x0 x5 (ix3 b s r) = ∑ k : Fin 2048, tok x0 (ix2 (row b s) k) * x5 (ix2 k r)
  rw [val_main_v36_apply]
  refine Finset.sum_congr rfl fun k _ => ?_
  rw [tok_row]
  congr 1
  · congr 1; funext a; match a with | ⟨0, _⟩ => rfl | ⟨1, _⟩ => rfl | ⟨2, _⟩ => rfl
  · congr 1; funext a; match a with | ⟨0, _⟩ => rfl | ⟨1, _⟩ => rfl

/-- The reference's two half products add up to tokens · error. -/
theorem ref_err (b : Fin 12) (s : Fin 128) (n : Fin 5632) :
    val_main_v35 x0 x1 x2 x3 x4 (ix3 b s n) = ∑ k : Fin 2048, tok x0 (ix2 (row b s) k) * errM x1 x2 x3 x4 (ix2 k n) := by
  rw [val_main_v35_apply]
  show val_main_v32 x0 x1 x2 x3 x4 (ix3 b s n) + val_main_v34 x0 x1 x2 x3 x4 (ix3 b s n) = _
  rw [sum_runs 2 1024 2048 (by decide), Fin.sum_univ_two, val_main_v32_apply, val_main_v34_apply]
  congr 1
  · refine Finset.sum_congr rfl fun k _ => ?_
    have hk := k.isLt
    rw [tok_row, val_main_v31_apply]
    congr 1
    · congr 1; funext a; apply Fin.ext
      match a with | ⟨0, _⟩ => rfl | ⟨1, _⟩ => rfl | ⟨2, _⟩ => show k.val = 1024 * 0 + k.val; omega
    · refine Eq.trans (congrArg _ ?_) (error_lo x1 x2 x3 x4 k n _ (show 1024 * 0 + k.val = k.val by omega))
      funext a; match a with | ⟨0, _⟩ => rfl | ⟨1, _⟩ => rfl
  · refine Finset.sum_congr rfl fun k _ => ?_
    have hk := k.isLt
    rw [tok_row, val_main_v33_apply]
    congr 1
    · congr 1; funext a; apply Fin.ext
      match a with | ⟨0, _⟩ => rfl | ⟨1, _⟩ => rfl | ⟨2, _⟩ => show 1024 + k.val = 1024 * 1 + k.val; omega
    · refine Eq.trans (congrArg _ ?_) (error_hi x1 x2 x3 x4 k n _ (show 1024 * 1 + k.val = 1024 + k.val by omega))
      funext a; match a with | ⟨0, _⟩ => rfl | ⟨1, _⟩ => rfl

/-- The reference's residual. -/
theorem ref_res (b : Fin 12) (s : Fin 128) (n : Fin 5632) :
    val_main_v39 x0 x1 x2 x3 x4 x5 x6 (ix3 b s n) = rR x0 x1 x2 x3 x4 x5 x6 (ix2 (row b s) n) := by
  rw [val_main_v39_apply]
  show val_main_v35 x0 x1 x2 x3 x4 (ix3 b s n) - val_main_v38 x0 x5 x6 (ix3 b s n)
    = (∑ k : Fin 2048, tok x0 (ix2 (row b s) k) * errM x1 x2 x3 x4 (ix2 k n)) - ∑ r : Fin 32, pR x0 x5 (ix2 (row b s) r) * x6 (ix2 r n)
  rw [ref_err, val_main_v38_apply]
  congr 1
  refine Finset.sum_congr rfl fun r _ => ?_
  rw [← ref_proj]
  congr 1
  · congr 1; funext a; match a with | ⟨0, _⟩ => rfl | ⟨1, _⟩ => rfl | ⟨2, _⟩ => rfl
  · congr 1; funext a; match a with | ⟨0, _⟩ => rfl | ⟨1, _⟩ => rfl

/-- The reference's loss of each token. -/
theorem ref_loss (b : Fin 12) (s : Fin 128) :
    val_main_v41 x0 x1 x2 x3 x4 x5 x6 (ix2 b s) = lossTok (rR x0 x1 x2 x3 x4 x5 x6) (row b s) := by
  rw [val_main_v41_apply, val_main_cst_apply]
  refine (congrArg (· + _) zero32).trans ((zero_add _).trans ?_)
  unfold lossTok
  refine Finset.sum_congr rfl fun n _ => ?_
  rw [val_main_v40_apply, show idx_main_v41 (ix2 b s) n = ix3 b s n from by
    funext a; match a with | ⟨0, _⟩ => rfl | ⟨1, _⟩ => rfl | ⟨2, _⟩ => rfl]
  show val_main_v39 x0 x1 x2 x3 x4 x5 x6 (ix3 b s n) * val_main_v39 x0 x1 x2 x3 x4 x5 x6 (ix3 b s n) = _
  rw [ref_res]

/-- The reference's residual · bᵀ. -/
theorem ref_g (b : Fin 12) (s : Fin 128) (r : Fin 32) :
    val_main_v43 x0 x1 x2 x3 x4 x5 x6 (ix3 b s r) = gM (rR x0 x1 x2 x3 x4 x5 x6) x6 (ix2 (row b s) r) := by
  rw [val_main_v43_apply]
  show _ = ∑ n : Fin 5632, rR x0 x1 x2 x3 x4 x5 x6 (ix2 (row b s) n) * x6 (ix2 r n)
  refine Finset.sum_congr rfl fun n _ => ?_
  rw [val_main_v42_apply, show lidx_main_v43 (ix3 b s r) n = ix3 b s n from by
    funext a; match a with | ⟨0, _⟩ => rfl | ⟨1, _⟩ => rfl | ⟨2, _⟩ => rfl]
  show val_main_v39 x0 x1 x2 x3 x4 x5 x6 (ix3 b s n) * _ = _
  rw [ref_res]
  congr 2; funext a; match a with | ⟨0, _⟩ => rfl | ⟨1, _⟩ => rfl

/-- The sum over tokens that gives the gradient of `a`. -/
theorem ref_v45 (k : Fin 2048) (r : Fin 32) :
    val_main_v45 x0 x1 x2 x3 x4 x5 x6 (ix2 k r)
      = ∑ b : Fin 12, ∑ s : Fin 128, x0 (ix3 b s k) * val_main_v44 x0 x1 x2 x3 x4 x5 x6 (ix3 b s r) := by
  unfold val_main_v45
  generalize val_main_v44 x0 x1 x2 x3 x4 x5 x6 = y
  simp only [Host.dotGeneral]
  rw [Ideal.dotGeneral_apply, sum_contr2 dot_S12x128x2048_S12x128x32_S2048x32_01_01_2_2_n_n 12 128 rfl rfl rfl]
  refine Finset.sum_congr rfl fun b _ => Finset.sum_congr rfl fun s _ => ?_
  have h0 := contrEquiv2_symm_val0 dot_S12x128x2048_S12x128x32_S2048x32_01_01_2_2_n_n 12 128 rfl rfl rfl (b, s)
  have h1 := contrEquiv2_symm_val1 dot_S12x128x2048_S12x128x32_S2048x32_01_01_2_2_n_n 12 128 rfl rfl rfl (b, s)
  congr 2
  · funext a; apply Fin.ext
    match a with
    | ⟨0, _⟩ => exact h0
    | ⟨1, _⟩ => exact h1
    | ⟨2, _⟩ => rfl
  · funext a; apply Fin.ext
    match a with
    | ⟨0, _⟩ => exact h0
    | ⟨1, _⟩ => exact h1
    | ⟨2, _⟩ => rfl

/-- The sum over tokens that gives the gradient of `b`. -/
theorem ref_v48 (r : Fin 32) (n : Fin 5632) :
    val_main_v48 x0 x1 x2 x3 x4 x5 x6 (ix2 r n)
      = ∑ b : Fin 12, ∑ s : Fin 128, val_main_v37 x0 x5 (ix3 b s r) * val_main_v42 x0 x1 x2 x3 x4 x5 x6 (ix3 b s n) := by
  unfold val_main_v48
  generalize val_main_v42 x0 x1 x2 x3 x4 x5 x6 = y
  generalize val_main_v37 x0 x5 = z
  simp only [Host.dotGeneral]
  rw [Ideal.dotGeneral_apply, sum_contr2 dot_S12x128x32_S12x128x5632_S32x5632_01_01_2_2_n_n 12 128 rfl rfl rfl]
  refine Finset.sum_congr rfl fun b _ => Finset.sum_congr rfl fun s _ => ?_
  have h0 := contrEquiv2_symm_val0 dot_S12x128x32_S12x128x5632_S32x5632_01_01_2_2_n_n 12 128 rfl rfl rfl (b, s)
  have h1 := contrEquiv2_symm_val1 dot_S12x128x32_S12x128x5632_S32x5632_01_01_2_2_n_n 12 128 rfl rfl rfl (b, s)
  congr 2
  · funext a; apply Fin.ext
    match a with
    | ⟨0, _⟩ => exact h0
    | ⟨1, _⟩ => exact h1
    | ⟨2, _⟩ => rfl
  · funext a; apply Fin.ext
    match a with
    | ⟨0, _⟩ => exact h0
    | ⟨1, _⟩ => exact h1
    | ⟨2, _⟩ => rfl

/-- The reference's gradient of `a`. -/
theorem ref_da (k : Fin 2048) (r : Fin 32) :
    val_main_v47 x0 x1 x2 x3 x4 x5 x6 (ix2 k r) = daM (tok x0) (gM (rR x0 x1 x2 x3 x4 x5 x6) x6) (ix2 k r) := by
  rw [val_main_v47_apply, val_main_v46_apply, val_main_cst_1_apply, ref_v45]
  refine (congrArg (· * _) negTwo32).trans ?_
  unfold daM
  rw [sum_runs 12 128 1536 (by decide)]
  refine congrArg (((-2 : ℝ) : EReal) * ·) (Finset.sum_congr rfl fun b _ => Finset.sum_congr rfl fun s _ => ?_)
  rw [val_main_v44_apply]
  exact congrArg₂ (· * ·) (tok_row x0 b s _).symm (ref_g x0 x1 x2 x3 x4 x5 x6 b s _)

/-- The reference's gradient of `b`. -/
theorem ref_db (r : Fin 32) (n : Fin 5632) :
    val_main_v50 x0 x1 x2 x3 x4 x5 x6 (ix2 r n) = dbM (pR x0 x5) (rR x0 x1 x2 x3 x4 x5 x6) (ix2 r n) := by
  rw [val_main_v50_apply, val_main_v49_apply, val_main_cst_2_apply, ref_v48]
  refine (congrArg (· * _) negTwo32).trans ?_
  unfold dbM
  rw [sum_runs 12 128 1536 (by decide)]
  refine congrArg (((-2 : ℝ) : EReal) * ·) (Finset.sum_congr rfl fun b _ => Finset.sum_congr rfl fun s _ => ?_)
  rw [val_main_v42_apply]
  exact congrArg₂ (· * ·) (ref_proj x0 x5 b s _) (ref_res x0 x1 x2 x3 x4 x5 x6 b s _)

end Cert.ReferenceIdeal.Read

end
-- ==== Proof.Equation.lean ====
/- The equation: on the same arguments, each result of the kernel is the reference's. -/
module

public import proofs.«01_k».proof.Proof.Arrays
public import proofs.«01_k».proof.Proof.Reference

@[expose] public section

set_option maxRecDepth 16384

noncomputable section

open Idealize.ShloMosaic Idealize.ShloMosaic.TcCoe Idealize.ShloMosaic.ValueIdx
open Idealize.SL Idealize.SL.Sem
open scoped BigOperators

namespace Cert.KernelIdeal.Value

open Cert.KernelIdeal Cert.KernelIdeal.Gen Cert.Spec Cert.ReferenceIdeal.Read

variable (m : (ℓ : Loc nD τ sig) → Buf (Elt Ideal) ℓ) (c : Dev nD)

/-- The kernel's arguments. -/
abbrev arg0 : Vec Ideal S12x128x2048 .bf16 := m ((c.tc : Thread nD τ).loc main_arg0)
@[inherit_doc arg0] abbrev arg1 : Vec Ideal S2048x5632 .bf16 := m ((c.tc : Thread nD τ).loc main_arg1)
@[inherit_doc arg0] abbrev arg2 : Vec Ideal S1024x5632 .i8 := m ((c.tc : Thread nD τ).loc main_arg2)
@[inherit_doc arg0] abbrev arg3 : Vec Ideal S64x5632 .bf16 := m ((c.tc : Thread nD τ).loc main_arg3)
@[inherit_doc arg0] abbrev arg4 : Vec Ideal S64x5632 .bf16 := m ((c.tc : Thread nD τ).loc main_arg4)
@[inherit_doc arg0] abbrev arg5 : Vec Ideal S2048x32 .bf16 := m ((c.tc : Thread nD τ).loc main_arg5)
@[inherit_doc arg0] abbrev arg6 : Vec Ideal S32x5632 .bf16 := m ((c.tc : Thread nD τ).loc main_arg6)

/-- The kernel's matrix of all tokens is the token matrix. -/
theorem xA_tok : xA m c = tok (arg0 m c) := by
  rw [xA_eq]
  funext y
  refine shapeCast_apply (arg0 m c) shapeCasts_S12x128x2048_S1536x2048 y _ ?_
  rewrite [Shape.rowMajor_val_three, Shape.rowMajor_val_two]
  have h0 : (y 0).val < 1536 := (y 0).isLt
  have h1 : (y 1).val < 2048 := (y 1).isLt
  show ((y 0).val / 128 * 128 + (y 0).val % 128) * 2048 + (y 1).val = (y 0).val * 2048 + (y 1).val
  omega

/-- Tokens · a, from the arguments. -/
theorem pA_eq : pA m c = pR (arg0 m c) (arg5 m c) :=
  congrArg₂ projM (xA_tok m c) (V_main_arg5 m c)

/-- The error matrix, from the arguments. -/
theorem eA_eq : eA m c = errM (arg1 m c) (arg2 m c) (arg3 m c) (arg4 m c) := by
  show errM (N := 5632) (V (F := Ideal) m c main_arg1) (V (F := Ideal) m c main_arg2) (V (F := Ideal) m c main_arg3) (V (F := Ideal) m c main_arg4) = _
  rw [V_main_arg1, V_main_arg2, V_main_arg3, V_main_arg4]

/-- The residual, from the arguments. -/
theorem rA_eq : rA m c = rR (arg0 m c) (arg1 m c) (arg2 m c) (arg3 m c) (arg4 m c) (arg5 m c) (arg6 m c) := by
  show resM (xA m c) (eA m c) (pA m c) (V (F := Ideal) m c main_arg6) = _
  rw [xA_tok, eA_eq, pA_eq, V_main_arg6]

/-- Residual · bᵀ, from the arguments. -/
theorem gEndA_eq : gEndA m c = gM (rR (arg0 m c) (arg1 m c) (arg2 m c) (arg3 m c) (arg4 m c) (arg5 m c) (arg6 m c)) (arg6 m c) := by
  show gC (rA m c) (V (F := Ideal) m c main_arg6) 10 = _
  rw [rA_eq, V_main_arg6, gC_last]

/-- The loss of each token: the kernel's is the reference's. -/
theorem loss_eq :
    shapeCast S12x128 (shapeCast S1536 (extractStridedSlice S1536x1 ![0, 0] (lossEndA m c : Vec Ideal S1536x128 .f32)
      slices_S1536x128_S1536x1_0_0) shapeCasts_S1536x1_S1536) shapeCasts_S1536_S12x128
    = val_main_v41 (arg0 m c) (arg1 m c) (arg2 m c) (arg3 m c) (arg4 m c) (arg5 m c) (arg6 m c) := by
  funext y
  obtain ⟨b, s, rfl⟩ : ∃ (b : Fin 12) (s : Fin 128), y = ix2 b s := ⟨y 0, y 1, eq_ix2 y⟩
  rw [ref_loss, ← rA_eq, ← lossEnd_col0]
  refine (shapeCast_apply _ shapeCasts_S1536_S12x128 (ix2 b s) (ix1 (row b s)) ?_).trans ?_
  · rewrite [Shape.rowMajor_val_one, Shape.rowMajor_val_two]
    show 128 * b.val + s.val = b.val * 128 + s.val
    omega
  refine (shapeCast_apply _ shapeCasts_S1536x1_S1536 (ix1 (row b s)) (ix2 (row b s) 0) ?_).trans ?_
  · rewrite [Shape.rowMajor_val_two, Shape.rowMajor_val_one]
    show (128 * b.val + s.val) * 1 + 0 = 128 * b.val + s.val
    omega
  exact extractStridedSlice_apply ![0, 0] (lossEndA m c : Vec Ideal S1536x128 .f32) slices_S1536x128_S1536x1_0_0 (ix2 (row b s) 0)
    (ix2 (row b s) 0) fun a => match a with
    | ⟨0, _⟩ => by show 128 * b.val + s.val = 0 + (128 * b.val + s.val); omega
    | ⟨1, _⟩ => rfl

/-- Residual · bᵀ: the kernel's is the reference's. -/
theorem g_eq :
    shapeCast S12x128x32 (gEndA m c : Vec Ideal S1536x32 .f32) shapeCasts_S1536x32_S12x128x32
    = val_main_v43 (arg0 m c) (arg1 m c) (arg2 m c) (arg3 m c) (arg4 m c) (arg5 m c) (arg6 m c) := by
  funext y
  obtain ⟨b, s, r, rfl⟩ : ∃ (b : Fin 12) (s : Fin 128) (r : Fin 32), y = ix3 b s r := ⟨y 0, y 1, y 2, eq_ix3 y⟩
  rw [ref_g, ← gEndA_eq]
  refine shapeCast_apply _ shapeCasts_S1536x32_S12x128x32 (ix3 b s r) (ix2 (row b s) r) ?_
  rewrite [Shape.rowMajor_val_two, Shape.rowMajor_val_three]
  show (128 * b.val + s.val) * 32 + r.val = (b.val * 128 + s.val) * 32 + r.val
  omega

/-- The gradient of `a`: the kernel's is the reference's. -/
theorem da_eq : (daEndA m c : Vec Ideal S2048x32 .f32)
    = val_main_v47 (arg0 m c) (arg1 m c) (arg2 m c) (arg3 m c) (arg4 m c) (arg5 m c) (arg6 m c) := by
  funext y
  obtain ⟨k, r, rfl⟩ : ∃ (k : Fin 2048) (r : Fin 32), y = ix2 k r := ⟨y 0, y 1, eq_ix2 y⟩
  rw [ref_da, ← gEndA_eq, ← xA_tok]

/-- The gradient of `b`: the kernel's is the reference's. -/
theorem db_eq : (dbEndA m c : Vec Ideal S32x5632 .f32)
    = val_main_v50 (arg0 m c) (arg1 m c) (arg2 m c) (arg3 m c) (arg4 m c) (arg5 m c) (arg6 m c) := by
  funext y
  obtain ⟨r, n, rfl⟩ : ∃ (r : Fin 32) (n : Fin 5632), y = ix2 r n := ⟨y 0, y 1, eq_ix2 y⟩
  rw [ref_db, ← rA_eq, ← pA_eq]

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

open Cert.ReferenceIdeal.Read Cert.KernelIdeal.Value in
/-- On the same arguments the idealized kernel and the reference leave the same loss, the same residual · bᵀ and the same
    two gradients. -/
theorem same_results : Cert.algebraic_KernelIdeal_ReferenceIdeal (hKernelIdeal := Cert.KernelIdeal.Gen.facts)
    (hReferenceIdeal := Cert.ReferenceIdeal.Gen.facts) := by
  intro m g m' g' _ hargs
  refine ⟨_, _, _, _, Cert.KernelIdeal.Value.run m g,
    (θ_run (Cert.ReferenceIdeal.defs (F := Ideal)) _ _).mono (fun r h c => ?_) (Cert.ReferenceIdeal.Value.run (F := Ideal) m' g')⟩
  obtain ⟨a0, a1, a2, a3, a4, a5, a6⟩ := hargs c
  obtain ⟨h0, h1, h2, h3, hr⟩ := h c
  refine ⟨h0.trans ((val_main_v41_eq m' c).trans ?_), (h1.trans (val_main_v43_eq _ _ _ _ _ _ _)).trans ?_,
    (h2.trans (val_main_v47_eq _ _ _ _ _ _ _)).trans ?_, (h3.trans (val_main_v50_eq _ _ _ _ _ _ _)).trans ?_, hr⟩
  · rw [a0, a1, a2, a3, a4, a5, a6]; exact (loss_eq m c).symm
  · rw [a0, a1, a2, a3, a4, a5, a6]; exact (g_eq m c).symm
  · rw [a0, a1, a2, a3, a4, a5, a6]; exact (da_eq m c).symm
  · rw [a0, a1, a2, a3, a4, a5, a6]; exact (db_eq m c).symm

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2.2.2.2,
      sem_eq_zero_of_no_sems (by decide) r.2⟩) (Cert.ReferenceIdeal.Value.run (F := Ideal) m ρ), trivial, same_results⟩

end Cert.Proof

end
